-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_RefKvIdeal (m : (ℓ : Loc Cert.RefKvIdeal.nD Cert.RefKvIdeal.τ Cert.RefKvIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_scores_finite [hPre_scores_finite : Cert.Pre_scores_finite.Facts] (m : (ℓ : Loc Cert.MixIdeal.nD Cert.MixIdeal.τ Cert.MixIdeal.sig) → Buf (Elt Ideal) ℓ) : Prop :=
  ∀ c : Dev Cert.MixIdeal.nD,
    (Cert.Pre_scores_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))) = (fun _ => 1#1)

def Pre_RefMixIdeal (m : (ℓ : Loc Cert.RefMixIdeal.nD Cert.RefMixIdeal.τ Cert.RefMixIdeal.sig) → Buf (Elt Ideal) ℓ) : Prop :=
  True

def Pre_RefMixIdeal_scores_finite [hPre_scores_finite : Cert.Pre_scores_finite.Facts] (m : (ℓ : Loc Cert.RefMixIdeal.nD Cert.RefMixIdeal.τ Cert.RefMixIdeal.sig) → Buf (Elt Ideal) ℓ) : Prop :=
  ∀ c : Dev Cert.RefMixIdeal.nD,
    (Cert.Pre_scores_finite.fn (F := Ideal) (m ((c.tc : Thread Cert.RefMixIdeal.nD Cert.RefMixIdeal.τ).loc Cert.RefMixIdeal.main_arg0)) (m ((c.tc : Thread Cert.RefMixIdeal.nD Cert.RefMixIdeal.τ).loc Cert.RefMixIdeal.main_arg1)) (m ((c.tc : Thread Cert.RefMixIdeal.nD Cert.RefMixIdeal.τ).loc Cert.RefMixIdeal.main_arg2)) (m ((c.tc : Thread Cert.RefMixIdeal.nD Cert.RefMixIdeal.τ).loc Cert.RefMixIdeal.main_arg3)) (m ((c.tc : Thread Cert.RefMixIdeal.nD Cert.RefMixIdeal.τ).loc Cert.RefMixIdeal.main_arg4)) (m ((c.tc : Thread Cert.RefMixIdeal.nD Cert.RefMixIdeal.τ).loc Cert.RefMixIdeal.main_arg5)) (m ((c.tc : Thread Cert.RefMixIdeal.nD Cert.RefMixIdeal.τ).loc Cert.RefMixIdeal.main_arg6)) (m ((c.tc : Thread Cert.RefMixIdeal.nD Cert.RefMixIdeal.τ).loc Cert.RefMixIdeal.main_arg7)) (m ((c.tc : Thread Cert.RefMixIdeal.nD Cert.RefMixIdeal.τ).loc Cert.RefMixIdeal.main_arg8)) (m ((c.tc : Thread Cert.RefMixIdeal.nD Cert.RefMixIdeal.τ).loc Cert.RefMixIdeal.main_arg9)) (m ((c.tc : Thread Cert.RefMixIdeal.nD Cert.RefMixIdeal.τ).loc Cert.RefMixIdeal.main_arg10))) = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_RefHiddenIdeal (m : (ℓ : Loc Cert.RefHiddenIdeal.nD Cert.RefHiddenIdeal.τ Cert.RefHiddenIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_RefKvIdeal [hRefKvIdeal : Cert.RefKvIdeal.Facts] : Prop :=
  ∀ (m : (ℓ : Loc Cert.RefKvIdeal.nD Cert.RefKvIdeal.τ Cert.RefKvIdeal.sig) → Buf (Elt Ideal) ℓ) (g : Dev Cert.RefKvIdeal.nD → PrngReg), Pre_RefKvIdeal m →
    θ_run (Cert.RefKvIdeal.defs (F := Ideal)) (onTc (τ := Cert.RefKvIdeal.τ) (Cert.RefKvIdeal.main (F := Ideal))) ⟨m, fun _ => 0, g⟩ (fun r => (∀ c : Dev Cert.RefKvIdeal.nD,
      r.2.mem ((c.tc : Thread Cert.RefKvIdeal.nD Cert.RefKvIdeal.τ).loc Cert.RefKvIdeal.main_arg0) = m ((c.tc : Thread Cert.RefKvIdeal.nD Cert.RefKvIdeal.τ).loc Cert.RefKvIdeal.main_arg0)
      ∧ r.2.mem ((c.tc : Thread Cert.RefKvIdeal.nD Cert.RefKvIdeal.τ).loc Cert.RefKvIdeal.main_arg1) = m ((c.tc : Thread Cert.RefKvIdeal.nD Cert.RefKvIdeal.τ).loc Cert.RefKvIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixIdeal_pre_scores_finite [hMixIdeal : Cert.MixIdeal.Facts] [hPre_scores_finite : Cert.Pre_scores_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_scores_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_RefMixIdeal [hRefMixIdeal : Cert.RefMixIdeal.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4)
      ∧ r.2.mem ((c.tc : Thread Cert.RefMixIdeal.nD Cert.RefMixIdeal.τ).loc Cert.RefMixIdeal.main_arg5) = m ((c.tc : Thread Cert.RefMixIdeal.nD Cert.RefMixIdeal.τ).loc Cert.RefMixIdeal.main_arg5)
      ∧ r.2.mem ((c.tc : Thread Cert.RefMixIdeal.nD Cert.RefMixIdeal.τ).loc Cert.RefMixIdeal.main_arg6) = m ((c.tc : Thread Cert.RefMixIdeal.nD Cert.RefMixIdeal.τ).loc Cert.RefMixIdeal.main_arg6)
      ∧ r.2.mem ((c.tc : Thread Cert.RefMixIdeal.nD Cert.RefMixIdeal.τ).loc Cert.RefMixIdeal.main_arg7) = m ((c.tc : Thread Cert.RefMixIdeal.nD Cert.RefMixIdeal.τ).loc Cert.RefMixIdeal.main_arg7)
      ∧ r.2.mem ((c.tc : Thread Cert.RefMixIdeal.nD Cert.RefMixIdeal.τ).loc Cert.RefMixIdeal.main_arg8) = m ((c.tc : Thread Cert.RefMixIdeal.nD Cert.RefMixIdeal.τ).loc Cert.RefMixIdeal.main_arg8)
      ∧ r.2.mem ((c.tc : Thread Cert.RefMixIdeal.nD Cert.RefMixIdeal.τ).loc Cert.RefMixIdeal.main_arg9) = m ((c.tc : Thread Cert.RefMixIdeal.nD Cert.RefMixIdeal.τ).loc Cert.RefMixIdeal.main_arg9)
      ∧ r.2.mem ((c.tc : Thread Cert.RefMixIdeal.nD Cert.RefMixIdeal.τ).loc Cert.RefMixIdeal.main_arg10) = m ((c.tc : Thread Cert.RefMixIdeal.nD Cert.RefMixIdeal.τ).loc Cert.RefMixIdeal.main_arg10))
      ∧ r.2.sem = fun _ => 0)

def quiescent_RefMixIdeal_pre_scores_finite [hRefMixIdeal : Cert.RefMixIdeal.Facts] [hPre_scores_finite : Cert.Pre_scores_finite.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal_scores_finite m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4)
      ∧ r.2.mem ((c.tc : Thread Cert.RefMixIdeal.nD Cert.RefMixIdeal.τ).loc Cert.RefMixIdeal.main_arg5) = m ((c.tc : Thread Cert.RefMixIdeal.nD Cert.RefMixIdeal.τ).loc Cert.RefMixIdeal.main_arg5)
      ∧ r.2.mem ((c.tc : Thread Cert.RefMixIdeal.nD Cert.RefMixIdeal.τ).loc Cert.RefMixIdeal.main_arg6) = m ((c.tc : Thread Cert.RefMixIdeal.nD Cert.RefMixIdeal.τ).loc Cert.RefMixIdeal.main_arg6)
      ∧ r.2.mem ((c.tc : Thread Cert.RefMixIdeal.nD Cert.RefMixIdeal.τ).loc Cert.RefMixIdeal.main_arg7) = m ((c.tc : Thread Cert.RefMixIdeal.nD Cert.RefMixIdeal.τ).loc Cert.RefMixIdeal.main_arg7)
      ∧ r.2.mem ((c.tc : Thread Cert.RefMixIdeal.nD Cert.RefMixIdeal.τ).loc Cert.RefMixIdeal.main_arg8) = m ((c.tc : Thread Cert.RefMixIdeal.nD Cert.RefMixIdeal.τ).loc Cert.RefMixIdeal.main_arg8)
      ∧ r.2.mem ((c.tc : Thread Cert.RefMixIdeal.nD Cert.RefMixIdeal.τ).loc Cert.RefMixIdeal.main_arg9) = m ((c.tc : Thread Cert.RefMixIdeal.nD Cert.RefMixIdeal.τ).loc Cert.RefMixIdeal.main_arg9)
      ∧ r.2.mem ((c.tc : Thread Cert.RefMixIdeal.nD Cert.RefMixIdeal.τ).loc Cert.RefMixIdeal.main_arg10) = m ((c.tc : Thread Cert.RefMixIdeal.nD Cert.RefMixIdeal.τ).loc Cert.RefMixIdeal.main_arg10))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_RefHiddenIdeal [hRefHiddenIdeal : Cert.RefHiddenIdeal.Facts] : Prop :=
  ∀ (m : (ℓ : Loc Cert.RefHiddenIdeal.nD Cert.RefHiddenIdeal.τ Cert.RefHiddenIdeal.sig) → Buf (Elt Ideal) ℓ) (g : Dev Cert.RefHiddenIdeal.nD → PrngReg), Pre_RefHiddenIdeal m →
    θ_run (Cert.RefHiddenIdeal.defs (F := Ideal)) (onTc (τ := Cert.RefHiddenIdeal.τ) (Cert.RefHiddenIdeal.main (F := Ideal))) ⟨m, fun _ => 0, g⟩ (fun r => (∀ c : Dev Cert.RefHiddenIdeal.nD,
      r.2.mem ((c.tc : Thread Cert.RefHiddenIdeal.nD Cert.RefHiddenIdeal.τ).loc Cert.RefHiddenIdeal.main_arg0) = m ((c.tc : Thread Cert.RefHiddenIdeal.nD Cert.RefHiddenIdeal.τ).loc Cert.RefHiddenIdeal.main_arg0)
      ∧ r.2.mem ((c.tc : Thread Cert.RefHiddenIdeal.nD Cert.RefHiddenIdeal.τ).loc Cert.RefHiddenIdeal.main_arg1) = m ((c.tc : Thread Cert.RefHiddenIdeal.nD Cert.RefHiddenIdeal.τ).loc Cert.RefHiddenIdeal.main_arg1)
      ∧ r.2.mem ((c.tc : Thread Cert.RefHiddenIdeal.nD Cert.RefHiddenIdeal.τ).loc Cert.RefHiddenIdeal.main_arg2) = m ((c.tc : Thread Cert.RefHiddenIdeal.nD Cert.RefHiddenIdeal.τ).loc Cert.RefHiddenIdeal.main_arg2)
      ∧ r.2.mem ((c.tc : Thread Cert.RefHiddenIdeal.nD Cert.RefHiddenIdeal.τ).loc Cert.RefHiddenIdeal.main_arg3) = m ((c.tc : Thread Cert.RefHiddenIdeal.nD Cert.RefHiddenIdeal.τ).loc Cert.RefHiddenIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3)
      ∧ r.2.mem ((c.tc : Thread Cert.RefDownIdeal.nD Cert.RefDownIdeal.τ).loc Cert.RefDownIdeal.main_arg4) = m ((c.tc : Thread Cert.RefDownIdeal.nD Cert.RefDownIdeal.τ).loc Cert.RefDownIdeal.main_arg4))
      ∧ r.2.sem = fun _ => 0)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0)
      ∧ r.2.mem ((c.tc : Thread Cert.Dil.nD Cert.Dil.τ).loc Cert.Dil.main_arg1) = m ((c.tc : Thread Cert.Dil.nD Cert.Dil.τ).loc Cert.Dil.main_arg1)
      ∧ r.2.mem ((c.tc : Thread Cert.Dil.nD Cert.Dil.τ).loc Cert.Dil.main_arg2) = m ((c.tc : Thread Cert.Dil.nD Cert.Dil.τ).loc Cert.Dil.main_arg2))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
      ∧ r.2.mem ((c.tc : Thread Cert.DilIdeal.nD Cert.DilIdeal.τ).loc Cert.DilIdeal.main_arg2) = m ((c.tc : Thread Cert.DilIdeal.nD Cert.DilIdeal.τ).loc Cert.DilIdeal.main_arg2))
      ∧ r.2.sem = fun _ => 0)

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v2) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1))

def preserves_Kv_KvIdeal : Prop :=
  True

def algebraic_KvIdeal_RefKvIdeal [hKvIdeal : Cert.KvIdeal.Facts] [hRefKvIdeal : Cert.RefKvIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.RefKvIdeal.nD Cert.RefKvIdeal.τ Cert.RefKvIdeal.sig) → Buf (Elt Ideal) ℓ) (g' : Dev Cert.RefKvIdeal.nD → PrngReg), Pre_KvIdeal m →
    (∀ c : Dev Cert.KvIdeal.nD,
      m' ((c.tc : Thread Cert.RefKvIdeal.nD Cert.RefKvIdeal.τ).loc Cert.RefKvIdeal.main_arg0) = m ((c.tc : Thread Cert.KvIdeal.nD Cert.KvIdeal.τ).loc Cert.KvIdeal.main_arg0)
      ∧ m' ((c.tc : Thread Cert.RefKvIdeal.nD Cert.RefKvIdeal.τ).loc Cert.RefKvIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.RefKvIdeal.defs (F := Ideal)) (onTc (τ := Cert.RefKvIdeal.τ) (Cert.RefKvIdeal.main (F := Ideal))) ⟨m', fun _ => 0, g'⟩ (fun r => ∀ c : Dev Cert.RefKvIdeal.nD,
          r.2.mem ((c.tc : Thread Cert.RefKvIdeal.nD Cert.RefKvIdeal.τ).loc Cert.RefKvIdeal.main_v3) = v0 c
          ∧ r.2.mem ((c.tc : Thread Cert.RefKvIdeal.nD Cert.RefKvIdeal.τ).loc Cert.RefKvIdeal.main_arg0) = m' ((c.tc : Thread Cert.RefKvIdeal.nD Cert.RefKvIdeal.τ).loc Cert.RefKvIdeal.main_arg0)
          ∧ r.2.mem ((c.tc : Thread Cert.RefKvIdeal.nD Cert.RefKvIdeal.τ).loc Cert.RefKvIdeal.main_arg1) = m' ((c.tc : Thread Cert.RefKvIdeal.nD Cert.RefKvIdeal.τ).loc Cert.RefKvIdeal.main_arg1))

def preserves_Mix_MixIdeal : Prop :=
  True

def algebraic_MixIdeal_RefMixIdeal_pre_scores_finite [hMixIdeal : Cert.MixIdeal.Facts] [hRefMixIdeal : Cert.RefMixIdeal.Facts] [hPre_scores_finite : Cert.Pre_scores_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.RefMixIdeal.nD Cert.RefMixIdeal.τ Cert.RefMixIdeal.sig) → Buf (Elt Ideal) ℓ) (g' : Dev Cert.RefMixIdeal.nD → PrngReg), Pre_MixIdeal_scores_finite m →
    (∀ c : Dev Cert.MixIdeal.nD,
      m' ((c.tc : Thread Cert.RefMixIdeal.nD Cert.RefMixIdeal.τ).loc Cert.RefMixIdeal.main_arg0) = m ((c.tc : Thread Cert.MixIdeal.nD Cert.MixIdeal.τ).loc Cert.MixIdeal.main_arg0)
      ∧ m' ((c.tc : Thread Cert.RefMixIdeal.nD Cert.RefMixIdeal.τ).loc Cert.RefMixIdeal.main_arg1) = m ((c.tc : Thread Cert.MixIdeal.nD Cert.MixIdeal.τ).loc Cert.MixIdeal.main_arg1)
      ∧ m' ((c.tc : Thread Cert.RefMixIdeal.nD Cert.RefMixIdeal.τ).loc Cert.RefMixIdeal.main_arg2) = m ((c.tc : Thread Cert.MixIdeal.nD Cert.MixIdeal.τ).loc Cert.MixIdeal.main_arg2)
      ∧ m' ((c.tc : Thread Cert.RefMixIdeal.nD Cert.RefMixIdeal.τ).loc Cert.RefMixIdeal.main_arg3) = m ((c.tc : Thread Cert.MixIdeal.nD Cert.MixIdeal.τ).loc Cert.MixIdeal.main_arg3)
      ∧ m' ((c.tc : Thread Cert.RefMixIdeal.nD Cert.RefMixIdeal.τ).loc Cert.RefMixIdeal.main_arg4) = m ((c.tc : Thread Cert.MixIdeal.nD Cert.MixIdeal.τ).loc Cert.MixIdeal.main_arg4)
      ∧ m' ((c.tc : Thread Cert.RefMixIdeal.nD Cert.RefMixIdeal.τ).loc Cert.RefMixIdeal.main_arg5) = m ((c.tc : Thread Cert.MixIdeal.nD Cert.MixIdeal.τ).loc Cert.MixIdeal.main_arg5)
      ∧ m' ((c.tc : Thread Cert.RefMixIdeal.nD Cert.RefMixIdeal.τ).loc Cert.RefMixIdeal.main_arg6) = m ((c.tc : Thread Cert.MixIdeal.nD Cert.MixIdeal.τ).loc Cert.MixIdeal.main_arg6)
      ∧ m' ((c.tc : Thread Cert.RefMixIdeal.nD Cert.RefMixIdeal.τ).loc Cert.RefMixIdeal.main_arg7) = m ((c.tc : Thread Cert.MixIdeal.nD Cert.MixIdeal.τ).loc Cert.MixIdeal.main_arg7)
      ∧ m' ((c.tc : Thread Cert.RefMixIdeal.nD Cert.RefMixIdeal.τ).loc Cert.RefMixIdeal.main_arg8) = m ((c.tc : Thread Cert.MixIdeal.nD Cert.MixIdeal.τ).loc Cert.MixIdeal.main_arg8)
      ∧ m' ((c.tc : Thread Cert.RefMixIdeal.nD Cert.RefMixIdeal.τ).loc Cert.RefMixIdeal.main_arg9) = m ((c.tc : Thread Cert.MixIdeal.nD Cert.MixIdeal.τ).loc Cert.MixIdeal.main_arg9)
      ∧ m' ((c.tc : Thread Cert.RefMixIdeal.nD Cert.RefMixIdeal.τ).loc Cert.RefMixIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v17_0)) (v1 : (c : Dev Cert.MixIdeal.nD) → Buf (Elt Ideal) ((c.tc : Thread Cert.MixIdeal.nD Cert.MixIdeal.τ).loc Cert.MixIdeal.main_v17_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v17_0) = v0 c
          ∧ r.2.mem ((c.tc : Thread Cert.MixIdeal.nD Cert.MixIdeal.τ).loc Cert.MixIdeal.main_v17_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.RefMixIdeal.defs (F := Ideal)) (onTc (τ := Cert.RefMixIdeal.τ) (Cert.RefMixIdeal.main (F := Ideal))) ⟨m', fun _ => 0, g'⟩ (fun r => ∀ c : Dev Cert.RefMixIdeal.nD,
          r.2.mem ((c.tc : Thread Cert.RefMixIdeal.nD Cert.RefMixIdeal.τ).loc Cert.RefMixIdeal.main_v127) = v0 c
          ∧ r.2.mem ((c.tc : Thread Cert.RefMixIdeal.nD Cert.RefMixIdeal.τ).loc Cert.RefMixIdeal.main_v128) = v1 c
          ∧ r.2.mem ((c.tc : Thread Cert.RefMixIdeal.nD Cert.RefMixIdeal.τ).loc Cert.RefMixIdeal.main_arg0) = m' ((c.tc : Thread Cert.RefMixIdeal.nD Cert.RefMixIdeal.τ).loc Cert.RefMixIdeal.main_arg0)
          ∧ r.2.mem ((c.tc : Thread Cert.RefMixIdeal.nD Cert.RefMixIdeal.τ).loc Cert.RefMixIdeal.main_arg1) = m' ((c.tc : Thread Cert.RefMixIdeal.nD Cert.RefMixIdeal.τ).loc Cert.RefMixIdeal.main_arg1)
          ∧ r.2.mem ((c.tc : Thread Cert.RefMixIdeal.nD Cert.RefMixIdeal.τ).loc Cert.RefMixIdeal.main_arg2) = m' ((c.tc : Thread Cert.RefMixIdeal.nD Cert.RefMixIdeal.τ).loc Cert.RefMixIdeal.main_arg2)
          ∧ r.2.mem ((c.tc : Thread Cert.RefMixIdeal.nD Cert.RefMixIdeal.τ).loc Cert.RefMixIdeal.main_arg3) = m' ((c.tc : Thread Cert.RefMixIdeal.nD Cert.RefMixIdeal.τ).loc Cert.RefMixIdeal.main_arg3)
          ∧ r.2.mem ((c.tc : Thread Cert.RefMixIdeal.nD Cert.RefMixIdeal.τ).loc Cert.RefMixIdeal.main_arg4) = m' ((c.tc : Thread Cert.RefMixIdeal.nD Cert.RefMixIdeal.τ).loc Cert.RefMixIdeal.main_arg4)
          ∧ r.2.mem ((c.tc : Thread Cert.RefMixIdeal.nD Cert.RefMixIdeal.τ).loc Cert.RefMixIdeal.main_arg5) = m' ((c.tc : Thread Cert.RefMixIdeal.nD Cert.RefMixIdeal.τ).loc Cert.RefMixIdeal.main_arg5)
          ∧ r.2.mem ((c.tc : Thread Cert.RefMixIdeal.nD Cert.RefMixIdeal.τ).loc Cert.RefMixIdeal.main_arg6) = m' ((c.tc : Thread Cert.RefMixIdeal.nD Cert.RefMixIdeal.τ).loc Cert.RefMixIdeal.main_arg6)
          ∧ r.2.mem ((c.tc : Thread Cert.RefMixIdeal.nD Cert.RefMixIdeal.τ).loc Cert.RefMixIdeal.main_arg7) = m' ((c.tc : Thread Cert.RefMixIdeal.nD Cert.RefMixIdeal.τ).loc Cert.RefMixIdeal.main_arg7)
          ∧ r.2.mem ((c.tc : Thread Cert.RefMixIdeal.nD Cert.RefMixIdeal.τ).loc Cert.RefMixIdeal.main_arg8) = m' ((c.tc : Thread Cert.RefMixIdeal.nD Cert.RefMixIdeal.τ).loc Cert.RefMixIdeal.main_arg8)
          ∧ r.2.mem ((c.tc : Thread Cert.RefMixIdeal.nD Cert.RefMixIdeal.τ).loc Cert.RefMixIdeal.main_arg9) = m' ((c.tc : Thread Cert.RefMixIdeal.nD Cert.RefMixIdeal.τ).loc Cert.RefMixIdeal.main_arg9)
          ∧ r.2.mem ((c.tc : Thread Cert.RefMixIdeal.nD Cert.RefMixIdeal.τ).loc Cert.RefMixIdeal.main_arg10) = m' ((c.tc : Thread Cert.RefMixIdeal.nD Cert.RefMixIdeal.τ).loc Cert.RefMixIdeal.main_arg10))

def preserves_Hidden_HiddenIdeal : Prop :=
  True

def algebraic_HiddenIdeal_RefHiddenIdeal [hHiddenIdeal : Cert.HiddenIdeal.Facts] [hRefHiddenIdeal : Cert.RefHiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.RefHiddenIdeal.nD Cert.RefHiddenIdeal.τ Cert.RefHiddenIdeal.sig) → Buf (Elt Ideal) ℓ) (g' : Dev Cert.RefHiddenIdeal.nD → PrngReg), Pre_HiddenIdeal m →
    (∀ c : Dev Cert.HiddenIdeal.nD,
      m' ((c.tc : Thread Cert.RefHiddenIdeal.nD Cert.RefHiddenIdeal.τ).loc Cert.RefHiddenIdeal.main_arg0) = m ((c.tc : Thread Cert.HiddenIdeal.nD Cert.HiddenIdeal.τ).loc Cert.HiddenIdeal.main_arg0)
      ∧ m' ((c.tc : Thread Cert.RefHiddenIdeal.nD Cert.RefHiddenIdeal.τ).loc Cert.RefHiddenIdeal.main_arg1) = m ((c.tc : Thread Cert.HiddenIdeal.nD Cert.HiddenIdeal.τ).loc Cert.HiddenIdeal.main_arg1)
      ∧ m' ((c.tc : Thread Cert.RefHiddenIdeal.nD Cert.RefHiddenIdeal.τ).loc Cert.RefHiddenIdeal.main_arg2) = m ((c.tc : Thread Cert.HiddenIdeal.nD Cert.HiddenIdeal.τ).loc Cert.HiddenIdeal.main_arg2)
      ∧ m' ((c.tc : Thread Cert.RefHiddenIdeal.nD Cert.RefHiddenIdeal.τ).loc Cert.RefHiddenIdeal.main_arg3) = m ((c.tc : Thread Cert.HiddenIdeal.nD Cert.HiddenIdeal.τ).loc Cert.HiddenIdeal.main_arg3)) →
    ∃ (v0 : (c : Dev Cert.HiddenIdeal.nD) → Buf (Elt Ideal) ((c.tc : Thread Cert.HiddenIdeal.nD Cert.HiddenIdeal.τ).loc Cert.HiddenIdeal.main_v4_0)) (v1 : (c : Dev Cert.HiddenIdeal.nD) → Buf (Elt Ideal) ((c.tc : Thread Cert.HiddenIdeal.nD Cert.HiddenIdeal.τ).loc Cert.HiddenIdeal.main_v4_1)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v4_0) = v0 c
          ∧ r.2.mem ((c.tc : Thread Cert.HiddenIdeal.nD Cert.HiddenIdeal.τ).loc Cert.HiddenIdeal.main_v4_1) = v1 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ θ_run (Cert.RefHiddenIdeal.defs (F := Ideal)) (onTc (τ := Cert.RefHiddenIdeal.τ) (Cert.RefHiddenIdeal.main (F := Ideal))) ⟨m', fun _ => 0, g'⟩ (fun r => ∀ c : Dev Cert.RefHiddenIdeal.nD,
          r.2.mem ((c.tc : Thread Cert.RefHiddenIdeal.nD Cert.RefHiddenIdeal.τ).loc Cert.RefHiddenIdeal.main_v6) = v0 c
          ∧ r.2.mem ((c.tc : Thread Cert.RefHiddenIdeal.nD Cert.RefHiddenIdeal.τ).loc Cert.RefHiddenIdeal.main_v8) = v1 c
          ∧ r.2.mem ((c.tc : Thread Cert.RefHiddenIdeal.nD Cert.RefHiddenIdeal.τ).loc Cert.RefHiddenIdeal.main_arg0) = m' ((c.tc : Thread Cert.RefHiddenIdeal.nD Cert.RefHiddenIdeal.τ).loc Cert.RefHiddenIdeal.main_arg0)
          ∧ r.2.mem ((c.tc : Thread Cert.RefHiddenIdeal.nD Cert.RefHiddenIdeal.τ).loc Cert.RefHiddenIdeal.main_arg1) = m' ((c.tc : Thread Cert.RefHiddenIdeal.nD Cert.RefHiddenIdeal.τ).loc Cert.RefHiddenIdeal.main_arg1)
          ∧ r.2.mem ((c.tc : Thread Cert.RefHiddenIdeal.nD Cert.RefHiddenIdeal.τ).loc Cert.RefHiddenIdeal.main_arg2) = m' ((c.tc : Thread Cert.RefHiddenIdeal.nD Cert.RefHiddenIdeal.τ).loc Cert.RefHiddenIdeal.main_arg2)
          ∧ r.2.mem ((c.tc : Thread Cert.RefHiddenIdeal.nD Cert.RefHiddenIdeal.τ).loc Cert.RefHiddenIdeal.main_arg3) = m' ((c.tc : Thread Cert.RefHiddenIdeal.nD Cert.RefHiddenIdeal.τ).loc Cert.RefHiddenIdeal.main_arg3))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)
      ∧ m' ((c.tc : Thread Cert.RefDownIdeal.nD Cert.RefDownIdeal.τ).loc Cert.RefDownIdeal.main_arg3) = m ((c.tc : Thread Cert.DownIdeal.nD Cert.DownIdeal.τ).loc Cert.DownIdeal.main_arg3)
      ∧ m' ((c.tc : Thread Cert.RefDownIdeal.nD Cert.RefDownIdeal.τ).loc Cert.RefDownIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v7)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v7) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v30) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2)
          ∧ r.2.mem ((c.tc : Thread Cert.RefDownIdeal.nD Cert.RefDownIdeal.τ).loc Cert.RefDownIdeal.main_arg3) = m' ((c.tc : Thread Cert.RefDownIdeal.nD Cert.RefDownIdeal.τ).loc Cert.RefDownIdeal.main_arg3)
          ∧ r.2.mem ((c.tc : Thread Cert.RefDownIdeal.nD Cert.RefDownIdeal.τ).loc Cert.RefDownIdeal.main_arg4) = m' ((c.tc : Thread Cert.RefDownIdeal.nD Cert.RefDownIdeal.τ).loc Cert.RefDownIdeal.main_arg4))

def preserves_Dil_DilIdeal : Prop :=
  True

def Claim : Prop :=
  ∃ (hProj : Cert.Proj.Facts) (hProjIdeal : Cert.ProjIdeal.Facts) (hRefProjIdeal : Cert.RefProjIdeal.Facts) (hKv : Cert.Kv.Facts) (hKvIdeal : Cert.KvIdeal.Facts) (hRefKvIdeal : Cert.RefKvIdeal.Facts) (hMix : Cert.Mix.Facts) (hMixIdeal : Cert.MixIdeal.Facts) (hRefMixIdeal : Cert.RefMixIdeal.Facts) (hHidden : Cert.Hidden.Facts) (hHiddenIdeal : Cert.HiddenIdeal.Facts) (hRefHiddenIdeal : Cert.RefHiddenIdeal.Facts) (hDown : Cert.Down.Facts) (hDownIdeal : Cert.DownIdeal.Facts) (hRefDownIdeal : Cert.RefDownIdeal.Facts) (hDil : Cert.Dil.Facts) (hDilIdeal : Cert.DilIdeal.Facts) (hPre_scores_finite : Cert.Pre_scores_finite.Facts),
    quiescent_Proj (hProj := hProj)
    ∧ quiescent_ProjIdeal (hProjIdeal := hProjIdeal)
    ∧ quiescent_RefProjIdeal (hRefProjIdeal := hRefProjIdeal)
    ∧ quiescent_Kv (hKv := hKv)
    ∧ quiescent_KvIdeal (hKvIdeal := hKvIdeal)
    ∧ quiescent_RefKvIdeal (hRefKvIdeal := hRefKvIdeal)
    ∧ quiescent_Mix (hMix := hMix)
    ∧ quiescent_MixIdeal (hMixIdeal := hMixIdeal)
    ∧ quiescent_MixIdeal_pre_scores_finite (hMixIdeal := hMixIdeal) (hPre_scores_finite := hPre_scores_finite)
    ∧ quiescent_RefMixIdeal (hRefMixIdeal := hRefMixIdeal)
    ∧ quiescent_RefMixIdeal_pre_scores_finite (hRefMixIdeal := hRefMixIdeal) (hPre_scores_finite := hPre_scores_finite)
    ∧ quiescent_Hidden (hHidden := hHidden)
    ∧ quiescent_HiddenIdeal (hHiddenIdeal := hHiddenIdeal)
    ∧ quiescent_RefHiddenIdeal (hRefHiddenIdeal := hRefHiddenIdeal)
    ∧ quiescent_Down (hDown := hDown)
    ∧ quiescent_DownIdeal (hDownIdeal := hDownIdeal)
    ∧ quiescent_RefDownIdeal (hRefDownIdeal := hRefDownIdeal)
    ∧ quiescent_Dil (hDil := hDil)
    ∧ quiescent_DilIdeal (hDilIdeal := hDilIdeal)
    ∧ preserves_Proj_ProjIdeal
    ∧ algebraic_ProjIdeal_RefProjIdeal (hProjIdeal := hProjIdeal) (hRefProjIdeal := hRefProjIdeal)
    ∧ preserves_Kv_KvIdeal
    ∧ algebraic_KvIdeal_RefKvIdeal (hKvIdeal := hKvIdeal) (hRefKvIdeal := hRefKvIdeal)
    ∧ preserves_Mix_MixIdeal
    ∧ algebraic_MixIdeal_RefMixIdeal_pre_scores_finite (hMixIdeal := hMixIdeal) (hRefMixIdeal := hRefMixIdeal) (hPre_scores_finite := hPre_scores_finite)
    ∧ preserves_Hidden_HiddenIdeal
    ∧ algebraic_HiddenIdeal_RefHiddenIdeal (hHiddenIdeal := hHiddenIdeal) (hRefHiddenIdeal := hRefHiddenIdeal)
    ∧ preserves_Down_DownIdeal
    ∧ algebraic_DownIdeal_RefDownIdeal (hDownIdeal := hDownIdeal) (hRefDownIdeal := hRefDownIdeal)
    ∧ preserves_Dil_DilIdeal
-- ==== Pre_scores_finite.lean ====
abbrev S2x4096x2048 : Shape := ⟨3, ![2, 4096, 2048]⟩
abbrev S2x4096x1024 : Shape := ⟨3, ![2, 4096, 1024]⟩
abbrev S2x4096x4608 : Shape := ⟨3, ![2, 4096, 4608]⟩
abbrev S2x256x1024 : Shape := ⟨3, ![2, 256, 1024]⟩
abbrev S1x4x128x128 : Shape := ⟨4, ![1, 4, 128, 128]⟩
abbrev S1x4x128 : Shape := ⟨3, ![1, 4, 128]⟩
abbrev S1x512 : Shape := ⟨2, ![1, 512]⟩
abbrev S1x2048x2048 : Shape := ⟨3, ![1, 2048, 2048]⟩
abbrev S1x2048 : Shape := ⟨2, ![1, 2048]⟩
abbrev S2x4096x512 : Shape := ⟨3, ![2, 4096, 512]⟩
abbrev S_ : Shape := ⟨0, ![]⟩
abbrev S2x256x512 : Shape := ⟨3, ![2, 256, 512]⟩

class Facts : Prop where
  slices_S2x4096x4608_S2x4096x512_0_0_4096 : S2x4096x4608.Slices ![0, 0, 4096] S2x4096x512
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  slices_S2x256x1024_S2x256x512_0_0_0 : S2x256x1024.Slices ![0, 0, 0] S2x256x512
  bcast_S_S2x256x512 : S_.BroadcastsInDim S2x256x512 (![] : Fin 0 → Fin S2x256x512.rank)
  reducesTo_S2x256x512_S_d0_1_2 : S2x256x512.ReducesTo [0, 1, 2] S_

variable [Facts]

def fn {F : FTy → Type} [FloatOps F] (main_arg0 : FVec F S2x4096x2048 .f32) (main_arg1 : FVec F S2x4096x1024 .f32) (main_arg2 : FVec F S2x4096x4608 .f32) (main_arg3 : FVec F S2x256x1024 .f32) (main_arg4 : FVec F S1x4x128x128 .f32) (main_arg5 : FVec F S1x4x128 .f32) (main_arg6 : FVec F S1x512 .f32) (main_arg7 : FVec F S1x512 .f32) (main_arg8 : FVec F S1x2048x2048 .f32) (main_arg9 : FVec F S1x2048 .f32) (main_arg10 : FVec F S1x2048 .f32) : IVec S_ 1 :=
  let main_v0 : FVec F S2x4096x512 .f32 := (extractStridedSlice S2x4096x512 ![0, 0, 4096] · slices_S2x4096x4608_S2x4096x512_0_0_4096) main_arg2
  let main_v1 : FVec F S2x4096x512 .f32 := Host.absf main_v0
  let main_cst : FVec F S_ .f32 := constant S_ .f32 0x7F800000#32
  let main_v2 : FVec F S2x4096x512 .f32 := broadcastInDim S2x4096x512 ![] bcast_S_S2x4096x512 main_cst
  let main_v3 : IVec S2x4096x512 1 := cmpf .olt main_v1 main_v2
  let main_c : IVec S_ 1 := constantI S_ 1 1#1
  let main_v4 : IVec S_ 1 := (fun x v => Host.reduce IntOp.andi x v reducesTo_S2x4096x512_S_d0_1_2 h_S_) main_v3 main_c
  let main_v5 : FVec F S2x256x512 .f32 := (extractStridedSlice S2x256x512 ![0, 0, 0] · slices_S2x256x1024_S2x256x512_0_0_0) main_arg3
  let main_v6 : FVec F S2x256x512 .f32 := Host.absf main_v5
  let main_cst_0 : FVec F S_ .f32 := constant S_ .f32 0x7F800000#32
  let main_v7 : FVec F S2x256x512 .f32 := broadcastInDim S2x256x512 ![] bcast_S_S2x256x512 main_cst_0
  let main_v8 : IVec S2x256x512 1 := cmpf .olt main_v6 main_v7
  let main_c_1 : IVec S_ 1 := constantI S_ 1 1#1
  let main_v9 : IVec S_ 1 := (fun x v => Host.reduce IntOp.andi x v reducesTo_S2x256x512_S_d0_1_2 h_S_) main_v8 main_c_1
  let main_v10 : IVec S_ 1 := andi main_v4 main_v9
  main_v10
-- ==== Proj.lean ====
abbrev S2x4096x2048 : Shape := ⟨3, ![2, 4096, 2048]⟩
abbrev S1x2048x4608 : Shape := ⟨3, ![1, 2048, 4608]⟩
abbrev S8192x2048 : Shape := ⟨2, ![8192, 2048]⟩
abbrev S2048x4608 : Shape := ⟨2, ![2048, 4608]⟩
abbrev S8192x4608 : Shape := ⟨2, ![8192, 4608]⟩
abbrev S1024x2048 : Shape := ⟨2, ![1024, 2048]⟩
abbrev S1024x1536 : Shape := ⟨2, ![1024, 1536]⟩
abbrev S2048x1536 : Shape := ⟨2, ![2048, 1536]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S1x2048x4608, .f32⟩
  | .hbm, ⟨2, _⟩ => ⟨S8192x2048, .f32⟩
  | .hbm, ⟨3, _⟩ => ⟨S2048x4608, .f32⟩
  | .hbm, ⟨4, _⟩ => ⟨S2048x4608, .bf16⟩
  | .hbm, ⟨5, _⟩ => ⟨S8192x4608, .f32⟩
  | .local _ .vmem, ⟨0, _⟩ => ⟨S1024x2048, .f32⟩
  | .local _ .vmem, ⟨1, _⟩ => ⟨S1024x2048, .f32⟩
  | .local _ .vmem, ⟨2, _⟩ => ⟨S2048x4608, .bf16⟩
  | .local _ .vmem, ⟨3, _⟩ => ⟨S1024x1536, .f32⟩
  | .local _ .vmem, ⟨4, _⟩ => ⟨S1024x1536, .f32⟩
  | .local _ .vmem, ⟨5, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefProjIdeal.lean ====
abbrev S2x4096x2048 : Shape := ⟨3, ![2, 4096, 2048]⟩
abbrev S1x2048x4608 : Shape := ⟨3, ![1, 2048, 4608]⟩
abbrev S2048x4608 : Shape := ⟨2, ![2048, 4608]⟩
abbrev S2x4096x4608 : Shape := ⟨3, ![2, 4096, 4608]⟩
abbrev S8192x4608 : Shape := ⟨2, ![8192, 4608]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x4608, .f32⟩
  | .hbm, ⟨2, _⟩ => ⟨S2048x4608, .f32⟩
  | .hbm, ⟨3, _⟩ => ⟨S2x4096x4608, .f32⟩
  | .hbm, ⟨4, _⟩ => ⟨S8192x4608, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kv.lean ====
abbrev S2x256x2048 : Shape := ⟨3, ![2, 256, 2048]⟩
abbrev S1x2048x1024 : Shape := ⟨3, ![1, 2048, 1024]⟩
abbrev S512x2048 : Shape := ⟨2, ![512, 2048]⟩
abbrev S2048x1024 : Shape := ⟨2, ![2048, 1024]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S2x256x2048, .f32⟩
  | .hbm, ⟨1, _⟩ => ⟨S1x2048x1024, .f32⟩
  | .hbm, ⟨2, _⟩ => ⟨S512x2048, .f32⟩
  | .hbm, ⟨3, _⟩ => ⟨S2048x1024, .f32⟩
  | .hbm, ⟨4, _⟩ => ⟨S512x1024, .bf16⟩
  | .local _ .vmem, ⟨0, _⟩ => ⟨S512x2048, .f32⟩
  | .local _ .vmem, ⟨1, _⟩ => ⟨S2048x512, .f32⟩
  | .local _ .vmem, ⟨2, _⟩ => ⟨S2048x512, .f32⟩
  | .local _ .vmem, ⟨3, _⟩ => ⟨S512x512, .bf16⟩
  | .local _ .vmem, ⟨4, _⟩ => ⟨S512x512, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefKvIdeal.lean ====
abbrev S2x256x2048 : Shape := ⟨3, ![2, 256, 2048]⟩
abbrev S1x2048x1024 : Shape := ⟨3, ![1, 2048, 1024]⟩
abbrev S2048x1024 : Shape := ⟨2, ![2048, 1024]⟩
abbrev S2x256x1024 : Shape := ⟨3, ![2, 256, 1024]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x2048x1024, .f32⟩
  | .hbm, ⟨2, _⟩ => ⟨S2048x1024, .f32⟩
  | .hbm, ⟨3, _⟩ => ⟨S2x256x1024, .f32⟩
  | .hbm, ⟨4, _⟩ => ⟨S512x1024, .f32⟩
  | .hbm, ⟨5, _⟩ => ⟨S512x1024, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mix.lean ====
abbrev S2x4096x2048 : Shape := ⟨3, ![2, 4096, 2048]⟩
abbrev S2x4096x1024 : Shape := ⟨3, ![2, 4096, 1024]⟩
abbrev S2x4096x4608 : Shape := ⟨3, ![2, 4096, 4608]⟩
abbrev S2x256x1024 : Shape := ⟨3, ![2, 256, 1024]⟩
abbrev S1x4x128x128 : Shape := ⟨4, ![1, 4, 128, 128]⟩
abbrev S1x4x128 : Shape := ⟨3, ![1, 4, 128]⟩
abbrev S1x512 : Shape := ⟨2, ![1, 512]⟩
abbrev S1x2048x2048 : Shape := ⟨3, ![1, 2048, 2048]⟩
abbrev S1x2048 : Shape := ⟨2, ![1, 2048]⟩
abbrev S8192x2048 : Shape := ⟨2, ![8192, 2048]⟩
abbrev S8192x1024 : Shape := ⟨2, ![8192, 1024]⟩
abbrev S8192x4608 : Shape := ⟨2, ![8192, 4608]⟩
abbrev S4x128x128 : Shape := ⟨3, ![4, 128, 128]⟩
abbrev S4x128 : Shape := ⟨2, ![4, 128]⟩
abbrev S128x4 : Shape := ⟨2, ![128, 4]⟩
abbrev S512 : Shape := ⟨1, ![512]⟩
abbrev S2048x2048 : Shape := ⟨2, ![2048, 2048]⟩
abbrev S2048 : Shape := ⟨1, ![2048]⟩
abbrev S512x2048 : Shape := ⟨2, ![512, 2048]⟩
abbrev S512x1024 : Shape := ⟨2, ![512, 1024]⟩
abbrev S512x512 : Shape := ⟨2, ![512, 512]⟩
abbrev S1x256x1024 : Shape := ⟨3, ![1, 256, 1024]⟩
abbrev S128x128 : Shape := ⟨2, ![128, 128]⟩
abbrev S1x128x128 : Shape := ⟨3, ![1, 128, 128]⟩
abbrev S256x512 : Shape := ⟨2, ![256, 512]⟩
abbrev S256 : Shape := ⟨1, ![256]⟩
abbrev S256x1 : Shape := ⟨2, ![256, 1]⟩
abbrev S128x1 : Shape := ⟨2, ![128, 1]⟩
abbrev S128x512 : Shape := ⟨2, ![128, 512]⟩
abbrev S1x256x128 : Shape := ⟨3, ![1, 256, 128]⟩
abbrev S256x128 : Shape := ⟨2, ![256, 128]⟩
abbrev S256x256 : Shape := ⟨2, ![256, 256]⟩
abbrev S256x1024 : Shape := ⟨2, ![256, 1024]⟩
abbrev S256x2048 : Shape := ⟨2, ![256, 2048]⟩

abbrev nBuf : Space → Nat
  | .hbm => 30
  | .vmem => 23
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S2x4096x4608, .f32⟩
  | .hbm, ⟨3, _⟩ => ⟨S2x256x1024, .f32⟩
  | .hbm, ⟨4, _⟩ => ⟨S1x4x128x128, .f32⟩
  | .hbm, ⟨5, _⟩ => ⟨S1x4x128, .f32⟩
  | .hbm, ⟨6, _⟩ => ⟨S1x512, .f32⟩
  | .hbm, ⟨7, _⟩ => ⟨S1x512, .f32⟩
  | .hbm, ⟨8, _⟩ => ⟨S1x2048x2048, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x1024, .f32⟩
  | .hbm, ⟨13, _⟩ => ⟨S8192x4608, .f32⟩
  | .hbm, ⟨14, _⟩ => ⟨S2x256x1024, .bf16⟩
  | .hbm, ⟨15, _⟩ => ⟨S4x128x128, .f32⟩
  | .hbm, ⟨16, _⟩ => ⟨S4x128, .f32⟩
  | .hbm, ⟨17, _⟩ => ⟨S128x4, .f32⟩
  | .hbm, ⟨18, _⟩ => ⟨S512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S2048x2048, .f32⟩
  | .hbm, ⟨23, _⟩ => ⟨S2048x2048, .bf16⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x256x1024, .bf16⟩
  | .local _ .vmem, ⟨11, _⟩ => ⟨S1x256x1024, .bf16⟩
  | .local _ .vmem, ⟨12, _⟩ => ⟨S4x128x128, .f32⟩
  | .local _ .vmem, ⟨13, _⟩ => ⟨S128x4, .f32⟩
  | .local _ .vmem, ⟨14, _⟩ => ⟨S1x512, .f32⟩
  | .local _ .vmem, ⟨15, _⟩ => ⟨S1x512, .f32⟩
  | .local _ .vmem, ⟨16, _⟩ => ⟨S2048x2048, .bf16⟩
  | .local _ .vmem, ⟨17, _⟩ => ⟨S1x2048, .f32⟩
  | .local _ .vmem, ⟨18, _⟩ => ⟨S1x2048, .f32⟩
  | .local _ .vmem, ⟨19, _⟩ => ⟨S512x2048, .f32⟩
  | .local _ .vmem, ⟨20, _⟩ => ⟨S512x2048, .f32⟩
  | .local _ .vmem, ⟨21, _⟩ => ⟨S512x2048, .bf16⟩
  | .local _ .vmem, ⟨22, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RefMixIdeal.lean ====
abbrev S2x4096x2048 : Shape := ⟨3, ![2, 4096, 2048]⟩
abbrev S2x4096x1024 : Shape := ⟨3, ![2, 4096, 1024]⟩
abbrev S2x4096x4608 : Shape := ⟨3, ![2, 4096, 4608]⟩
abbrev S2x256x1024 : Shape := ⟨3, ![2, 256, 1024]⟩
abbrev S1x4x128x128 : Shape := ⟨4, ![1, 4, 128, 128]⟩
abbrev S1x4x128 : Shape := ⟨3, ![1, 4, 128]⟩
abbrev S1x512 : Shape := ⟨2, ![1, 512]⟩
abbrev S1x2048x2048 : Shape := ⟨3, ![1, 2048, 2048]⟩
abbrev S1x2048 : Shape := ⟨2, ![1, 2048]⟩
abbrev S2x4096x512 : Shape := ⟨3, ![2, 4096, 512]⟩
abbrev S_ : Shape := ⟨0, ![]⟩
abbrev S512 : Shape := ⟨1, ![512]⟩
abbrev S4x128x128 : Shape := ⟨3, ![4, 128, 128]⟩
abbrev S4x128 : Shape := ⟨2, ![4, 128]⟩
abbrev S2x4096 : Shape := ⟨2, ![2, 4096]⟩
abbrev S2x4096x1 : Shape := ⟨3, ![2, 4096, 1]⟩
abbrev S1x1x512 : Shape := ⟨3, ![1, 1, 512]⟩
abbrev S2x32x128x4x128 : Shape := ⟨5, ![2, 32, 128, 4, 128]⟩
abbrev S128x128 : Shape := ⟨2, ![128, 128]⟩
abbrev S1x128x128 : Shape := ⟨3, ![1, 128, 128]⟩
abbrev S4x2x32x128x128 : Shape := ⟨5, ![4, 2, 32, 128, 128]⟩
abbrev S128x4 : Shape := ⟨2, ![128, 4]⟩
abbrev S1x1x128x4x1 : Shape := ⟨5, ![1, 1, 128, 4, 1]⟩
abbrev S2x256x512 : Shape := ⟨3, ![2, 256, 512]⟩
abbrev S2x4096x4x128 : Shape := ⟨4, ![2, 4096, 4, 128]⟩
abbrev S2x256x4x128 : Shape := ⟨4, ![2, 256, 4, 128]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S2048x2048 : Shape := ⟨2, ![2048, 2048]⟩
abbrev S2048 : Shape := ⟨1, ![2048]⟩
abbrev S1x1x2048 : Shape := ⟨3, ![1, 1, 2048]⟩
abbrev S8192x2048 : Shape := ⟨2, ![8192, 2048]⟩

abbrev nBuf : Space → Nat
  | .hbm => 176
  | .vmem => 0
  | .smem => 0
  | _ => 0

abbrev hbmTy0_0 (i : Nat) : BufTy := match i % 128 with
  | 0 => ⟨S2x4096x2048, .f32⟩
  | 1 => ⟨S2x4096x1024, .f32⟩
  | 2 => ⟨S2x4096x4608, .f32⟩
  | 3 => ⟨S2x256x1024, .f32⟩
  | 4 => ⟨S1x4x128x128, .f32⟩
  | 5 => ⟨S1x4x128, .f32⟩
  | 6 => ⟨S1x512, .f32⟩
  | 7 => ⟨S1x512, .f32⟩
  | 8 => ⟨S1x2048x2048, .f32⟩
  | 9 => ⟨S1x2048, .f32⟩
  | 10 => ⟨S1x2048, .f32⟩
  | 11 => ⟨S2x4096x1024, .f32⟩
  | 12 => ⟨S2x4096x1024, .f32⟩
  | 13 => ⟨S2x4096x1024, .f32⟩
  | 14 => ⟨S2x4096x512, .f32⟩
  | 15 => ⟨S2x4096x512, .f32⟩
  | 16 => ⟨S2x4096x512, .f32⟩
  | 17 => ⟨S2x4096x512, .f32⟩
  | 18 => ⟨S2x4096x512, .f32⟩
  | 19 => ⟨S_, .f32⟩
  | 20 => ⟨S2x4096x512, .f32⟩
  | 21 => ⟨S2x4096x512, .f32⟩
  | 22 => ⟨S2x4096x512, .f32⟩
  | 23 => ⟨S_, .f32⟩
  | 24 => ⟨S2x4096x512, .f32⟩
  | 25 => ⟨S2x4096x512, .f32⟩
  | 26 => ⟨S2x4096x512, .f32⟩
  | 27 => ⟨S_, .f32⟩
  | 28 => ⟨S2x4096x512, .f32⟩
  | 29 => ⟨S2x4096x512, .f32⟩
  | 30 => ⟨S_, .f32⟩
  | 31 => ⟨S2x4096x512, .f32⟩
  | 32 => ⟨S2x4096x512, .f32⟩
  | 33 => ⟨S2x4096x512, .f32⟩
  | 34 => ⟨S2x4096x512, .f32⟩
  | 35 => ⟨S2x4096x512, .f32⟩
  | 36 => ⟨S_, .f32⟩
  | 37 => ⟨S2x4096x512, .f32⟩
  | 38 => ⟨S2x4096x512, .f32⟩
  | 39 => ⟨S2x4096x512, .f32⟩
  | 40 => ⟨S_, .f32⟩
  | 41 => ⟨S2x4096x512, .f32⟩
  | 42 => ⟨S2x4096x512, .f32⟩
  | 43 => ⟨S2x4096x512, .f32⟩
  | 44 => ⟨S_, .f32⟩
  | 45 => ⟨S2x4096x512, .f32⟩
  | 46 => ⟨S2x4096x512, .f32⟩
  | 47 => ⟨S_, .f32⟩
  | 48 => ⟨S2x4096x512, .f32⟩
  | 49 => ⟨S2x4096x512, .f32⟩
  | 50 => ⟨S2x4096x512, .f32⟩
  | 51 => ⟨S512, .f32⟩
  | 52 => ⟨S512, .f32⟩
  | 53 => ⟨S4x128x128, .f32⟩
  | 54 => ⟨S4x128, .f32⟩
  | 55 => ⟨S_, .f32⟩
  | 56 => ⟨S2x4096, .f32⟩
  | 57 => ⟨S2x4096x1, .f32⟩
  | 58 => ⟨S_, .f32⟩
  | 59 => ⟨S2x4096x1, .f32⟩
  | 60 => ⟨S2x4096x1, .f32⟩
  | 61 => ⟨S2x4096x512, .f32⟩
  | 62 => ⟨S2x4096x512, .f32⟩
  | 63 => ⟨S2x4096x512, .f32⟩
  | 64 => ⟨S_, .f32⟩
  | 65 => ⟨S2x4096, .f32⟩
  | 66 => ⟨S2x4096x1, .f32⟩
  | 67 => ⟨S_, .f32⟩
  | 68 => ⟨S2x4096x1, .f32⟩
  | 69 => ⟨S2x4096x1, .f32⟩
  | 70 => ⟨S2x4096x512, .f32⟩
  | 71 => ⟨S2x4096x512, .f32⟩
  | 72 => ⟨S_, .f32⟩
  | 73 => ⟨S2x4096x1, .f32⟩
  | 74 => ⟨S2x4096x1, .f32⟩
  | 75 => ⟨S2x4096x1, .f32⟩
  | 76 => ⟨S2x4096x512, .f32⟩
  | 77 => ⟨S2x4096x512, .f32⟩
  | 78 => ⟨S1x1x512, .f32⟩
  | 79 => ⟨S2x4096x512, .f32⟩
  | 80 => ⟨S2x4096x512, .f32⟩
  | 81 => ⟨S1x1x512, .f32⟩
  | 82 => ⟨S2x4096x512, .f32⟩
  | 83 => ⟨S2x4096x512, .f32⟩
  | 84 => ⟨S2x32x128x4x128, .f32⟩
  | 85 => ⟨S_, .i1⟩
  | 86 => ⟨S128x128, .i1⟩
  | 87 => ⟨S128x128, .i32⟩
  | 88 => ⟨S_, .i32⟩
  | 89 => ⟨S128x128, .i32⟩
  | 90 => ⟨S128x128, .i32⟩
  | 91 => ⟨S128x128, .i32⟩
  | 92 => ⟨S128x128, .i1⟩
  | 93 => ⟨S_, .i1⟩
  | 94 => ⟨S128x128, .i1⟩
  | 95 => ⟨S128x128, .i1⟩
  | 96 => ⟨S1x128x128, .i1⟩
  | 97 => ⟨S_, .i32⟩
  | 98 => ⟨S_, .f32⟩
  | 99 => ⟨S4x128x128, .i1⟩
  | 100 => ⟨S4x128x128, .f32⟩
  | 101 => ⟨S4x128x128, .f32⟩
  | 102 => ⟨S4x2x32x128x128, .f32⟩
  | 103 => ⟨S2x32x128x4x128, .f32⟩
  | 104 => ⟨S128x4, .f32⟩
  | 105 => ⟨S1x1x128x4x1, .f32⟩
  | 106 => ⟨S2x32x128x4x128, .f32⟩
  | 107 => ⟨S2x32x128x4x128, .f32⟩
  | 108 => ⟨S2x4096x512, .f32⟩
  | 109 => ⟨S2x4096x512, .f32⟩
  | 110 => ⟨S2x256x512, .f32⟩
  | 111 => ⟨S2x256x512, .f32⟩
  | 112 => ⟨S2x4096x4x128, .f32⟩
  | 113 => ⟨S2x256x4x128, .f32⟩
  | 114 => ⟨S2x256x4x128, .f32⟩
  | 115 => ⟨S2x4x4096x256, .f32⟩
  | 116 => ⟨S_, .f32⟩
  | 117 => ⟨S2x4x4096x256, .f32⟩
  | 118 => ⟨S2x4x4096x256, .f32⟩
  | 119 => ⟨S_, .f32⟩
  | 120 => ⟨S2x4x4096, .f32⟩
  | 121 => ⟨S_, .f32⟩
  | 122 => ⟨S2x4x4096, .f32⟩
  | 123 => ⟨S2x4x4096, .f32⟩
  | 124 => ⟨S2x4x4096x1, .f32⟩
  | 125 => ⟨S2x4x4096x256, .f32⟩
  | 126 => ⟨S2x4x4096x256, .f32⟩
  | 127 => ⟨S2x4x4096x256, .f32⟩
  | _ => ⟨S2x4096x2048, .f32⟩

abbrev hbmTy0_1 (i : Nat) : BufTy := match i % 128 with
  | 0 => ⟨S_, .f32⟩
  | 1 => ⟨S2x4x4096, .f32⟩
  | 2 => ⟨S2x4x4096x1, .f32⟩
  | 3 => ⟨S2x4x4096x256, .f32⟩
  | 4 => ⟨S2x4x4096x256, .f32⟩
  | 5 => ⟨S2x4x128x4096, .f32⟩
  | 6 => ⟨S2x4096x4x128, .f32⟩
  | 7 => ⟨S2x4096x512, .f32⟩
  | 8 => ⟨S2x4096x2048, .f32⟩
  | 9 => ⟨S2048x2048, .f32⟩
  | 10 => ⟨S2x4096x2048, .f32⟩
  | 11 => ⟨S_, .f32⟩
  | 12 => ⟨S2x4096x2048, .f32⟩
  | 13 => ⟨S2x4096x2048, .f32⟩
  | 14 => ⟨S2x4096x2048, .f32⟩
  | 15 => ⟨S2048, .f32⟩
  | 16 => ⟨S2048, .f32⟩
  | 17 => ⟨S_, .f32⟩
  | 18 => ⟨S2x4096, .f32⟩
  | 19 => ⟨S2x4096x1, .f32⟩
  | 20 => ⟨S_, .f32⟩
  | 21 => ⟨S2x4096x1, .f32⟩
  | 22 => ⟨S2x4096x1, .f32⟩
  | 23 => ⟨S2x4096x2048, .f32⟩
  | 24 => ⟨S2x4096x2048, .f32⟩
  | 25 => ⟨S2x4096x2048, .f32⟩
  | 26 => ⟨S_, .f32⟩
  | 27 => ⟨S2x4096, .f32⟩
  | 28 => ⟨S2x4096x1, .f32⟩
  | 29 => ⟨S_, .f32⟩
  | 30 => ⟨S2x4096x1, .f32⟩
  | 31 => ⟨S2x4096x1, .f32⟩
  | 32 => ⟨S2x4096x2048, .f32⟩
  | 33 => ⟨S2x4096x2048, .f32⟩
  | 34 => ⟨S_, .f32⟩
  | 35 => ⟨S2x4096x1, .f32⟩
  | 36 => ⟨S2x4096x1, .f32⟩
  | 37 => ⟨S2x4096x1, .f32⟩
  | 38 => ⟨S2x4096x2048, .f32⟩
  | 39 => ⟨S2x4096x2048, .f32⟩
  | 40 => ⟨S1x1x2048, .f32⟩
  | 41 => ⟨S2x4096x2048, .f32⟩
  | 42 => ⟨S2x4096x2048, .f32⟩
  | 43 => ⟨S1x1x2048, .f32⟩
  | 44 => ⟨S2x4096x2048, .f32⟩
  | 45 => ⟨S2x4096x2048, .f32⟩
  | 46 => ⟨S8192x2048, .f32⟩
  | 47 => ⟨S8192x2048, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c : Ref sig .tc := ⟨.hbm, 85, rfl⟩
abbrev main_v61 : Ref sig .tc := ⟨.hbm, 86, rfl⟩
abbrev main_call0_v0 : Ref sig .tc := ⟨.hbm, 87, rfl⟩
abbrev main_call0_c : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_c_0 : Ref sig .tc := ⟨.hbm, 93, rfl⟩
abbrev main_call0_v5 : Ref sig .tc := ⟨.hbm, 94, rfl⟩
abbrev main_v62 : Ref sig .tc := ⟨.hbm, 95, rfl⟩
abbrev main_v63 : Ref sig .tc := ⟨.hbm, 96, rfl⟩
abbrev main_c_12 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_13 : Ref sig .tc := ⟨.hbm, 116, rfl⟩
abbrev main_v79 : Ref sig .tc := ⟨.hbm, 117, rfl⟩
abbrev main_v80 : Ref sig .tc := ⟨.hbm, 118, rfl⟩
abbrev main_cst_14 : Ref sig .tc := ⟨.hbm, 119, rfl⟩
abbrev main_v81 : Ref sig .tc := ⟨.hbm, 120, rfl⟩
abbrev main_cst_15 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_16 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_17 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_18 : Ref sig .tc := ⟨.hbm, 145, rfl⟩
abbrev main_v103 : Ref sig .tc := ⟨.hbm, 146, rfl⟩
abbrev main_v104 : Ref sig .tc := ⟨.hbm, 147, rfl⟩
abbrev main_cst_19 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_20 : Ref sig .tc := ⟨.hbm, 154, rfl⟩
abbrev main_v110 : Ref sig .tc := ⟨.hbm, 155, rfl⟩
abbrev main_v111 : Ref sig .tc := ⟨.hbm, 156, rfl⟩
abbrev main_cst_21 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_22 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩

abbrev nD : Nat := 1
abbrev τ : Topo := Topo.v7x

variable {F : FTy → Type} [FloatOps F]
-- ==== Hidden.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S8192x5632 : Shape := ⟨2, ![8192, 5632]⟩
abbrev S2048x2048 : Shape := ⟨2, ![2048, 2048]⟩
abbrev S2048x512 : Shape := ⟨2, ![2048, 512]⟩
abbrev S128x2048 : Shape := ⟨2, ![128, 2048]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S8192x2048, .bf16⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S8192x5632, .bf16⟩
  | .hbm, ⟨9, _⟩ => ⟨S5632x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S128x2048, .f32⟩
  | .local _ .vmem, ⟨7, _⟩ => ⟨S128x2048, .f32⟩
  | .local _ .vmem, ⟨8, _⟩ => ⟨S2048x512, .bf16⟩
  | .local _ .vmem, ⟨9, _⟩ => ⟨S2048x512, .bf16⟩
  | .local _ .vmem, ⟨10, _⟩ => ⟨S128x2048, .bf16⟩
  | .local _ .vmem, ⟨11, _⟩ => ⟨S128x2048, .bf16⟩
  | .local _ .vmem, ⟨12, _⟩ => ⟨S2048x512, .bf16⟩
  | .local _ .vmem, ⟨13, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefHiddenIdeal.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S8192x5632 : Shape := ⟨2, ![8192, 5632]⟩
abbrev S_ : Shape := ⟨0, ![]⟩
abbrev S5632x2048 : Shape := ⟨2, ![5632, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S2048x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S2048x5632, .f32⟩
  | .hbm, ⟨16, _⟩ => ⟨S8192x5632, .f32⟩
  | .hbm, ⟨17, _⟩ => ⟨S8192x5632, .f32⟩
  | .hbm, ⟨18, _⟩ => ⟨S8192x5632, .bf16⟩
  | .hbm, ⟨19, _⟩ => ⟨S5632x2048, .f32⟩
  | .hbm, ⟨20, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Down.lean ====
abbrev S8192x5632 : Shape := ⟨2, ![8192, 5632]⟩
abbrev S8192x2048 : Shape := ⟨2, ![8192, 2048]⟩
abbrev S1x5632x2048 : Shape := ⟨3, ![1, 5632, 2048]⟩
abbrev S1x2048 : Shape := ⟨2, ![1, 2048]⟩
abbrev S5632x2048 : Shape := ⟨2, ![5632, 2048]⟩
abbrev S2048 : Shape := ⟨1, ![2048]⟩
abbrev S512x5632 : Shape := ⟨2, ![512, 5632]⟩
abbrev S512x2048 : Shape := ⟨2, ![512, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 10
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S1x5632x2048, .f32⟩
  | .hbm, ⟨3, _⟩ => ⟨S1x2048, .f32⟩
  | .hbm, ⟨4, _⟩ => ⟨S1x2048, .f32⟩
  | .hbm, ⟨5, _⟩ => ⟨S8192x5632, .bf16⟩
  | .hbm, ⟨6, _⟩ => ⟨S5632x2048, .f32⟩
  | .hbm, ⟨7, _⟩ => ⟨S5632x2048, .bf16⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S512x2048, .f32⟩
  | .local _ .vmem, ⟨3, _⟩ => ⟨S512x2048, .f32⟩
  | .local _ .vmem, ⟨4, _⟩ => ⟨S5632x2048, .bf16⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefDownIdeal.lean ====
abbrev S8192x5632 : Shape := ⟨2, ![8192, 5632]⟩
abbrev S8192x2048 : Shape := ⟨2, ![8192, 2048]⟩
abbrev S1x5632x2048 : Shape := ⟨3, ![1, 5632, 2048]⟩
abbrev S1x2048 : Shape := ⟨2, ![1, 2048]⟩
abbrev S5632x2048 : Shape := ⟨2, ![5632, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S1x5632x2048, .f32⟩
  | .hbm, ⟨3, _⟩ => ⟨S1x2048, .f32⟩
  | .hbm, ⟨4, _⟩ => ⟨S1x2048, .f32⟩
  | .hbm, ⟨5, _⟩ => ⟨S5632x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Dil.lean ====
abbrev S8192x4608 : Shape := ⟨2, ![8192, 4608]⟩
abbrev S32x8 : Shape := ⟨2, ![32, 8]⟩
abbrev S1x2048x2048 : Shape := ⟨3, ![1, 2048, 2048]⟩
abbrev S2048x2048 : Shape := ⟨2, ![2048, 2048]⟩
abbrev S2x4096x4608 : Shape := ⟨3, ![2, 4096, 4608]⟩
abbrev S2x4096x1024 : Shape := ⟨3, ![2, 4096, 1024]⟩
abbrev S1x4096x128 : Shape := ⟨3, ![1, 4096, 128]⟩
abbrev S128x2048 : Shape := ⟨2, ![128, 2048]⟩
abbrev S4096x128 : Shape := ⟨2, ![4096, 128]⟩
abbrev S3x4096x128 : Shape := ⟨3, ![3, 4096, 128]⟩
abbrev S6x128x256 : Shape := ⟨3, ![6, 128, 256]⟩
abbrev S1x1024x128 : Shape := ⟨3, ![1, 1024, 128]⟩
abbrev S1024x128 : Shape := ⟨2, ![1024, 128]⟩
abbrev S128x256 : Shape := ⟨2, ![128, 256]⟩
abbrev S1x1 : Shape := ⟨2, ![1, 1]⟩
abbrev S1x128x256 : Shape := ⟨3, ![1, 128, 256]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S256x128 : Shape := ⟨2, ![256, 128]⟩
abbrev S32x128 : Shape := ⟨2, ![32, 128]⟩
abbrev S64x128 : Shape := ⟨2, ![64, 128]⟩
abbrev S32x1 : Shape := ⟨2, ![32, 1]⟩
abbrev S1x32x128 : Shape := ⟨3, ![1, 32, 128]⟩
abbrev S1x64x128 : Shape := ⟨3, ![1, 64, 128]⟩

abbrev nBuf : Space → Nat
  | .hbm => 7
  | .vmem => 19
  | .smem => 1
  | _ => 0

abbrev bufTy : (tb : Table) → Fin (tcTables nBuf tb) → BufTy
  | .hbm, ⟨0, _⟩ => ⟨S8192x4608, .f32⟩
  | .hbm, ⟨1, _⟩ => ⟨S32x8, .f32⟩
  | .hbm, ⟨2, _⟩ => ⟨S1x2048x2048, .f32⟩
  | .hbm, ⟨3, _⟩ => ⟨S2048x2048, .f32⟩
  | .hbm, ⟨4, _⟩ => ⟨S2x4096x4608, .f32⟩
  | .hbm, ⟨5, _⟩ => ⟨S2x4096x1024, .f32⟩
  | .hbm, ⟨6, _⟩ => ⟨S2048x2048, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S128x2048, .f32⟩
  | .local _ .vmem, ⟨7, _⟩ => ⟨S128x2048, .f32⟩
  | .local _ .vmem, ⟨8, _⟩ => ⟨S1x4096x128, .f32⟩
  | .local _ .vmem, ⟨9, _⟩ => ⟨S1x4096x128, .f32⟩
  | .local _ .vmem, ⟨10, _⟩ => ⟨S128x2048, .bf16⟩
  | .local _ .vmem, ⟨11, _⟩ => ⟨S128x2048, .bf16⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S3x4096x128, .f32⟩
  | .local _ .vmem, ⟨16, _⟩ => ⟨S3x4096x128, .f32⟩
  | .local _ .vmem, ⟨17, _⟩ => ⟨S3x4096x128, .f32⟩
  | .local _ .vmem, ⟨18, _⟩ => ⟨S6x128x256, .f32⟩
  | .local _ .smem, ⟨0, _⟩ => ⟨S32x8, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v72 : BitVec 1 := Scalar.cmpi .eq arg1 c0_i32
  let v73 : BitVec 32 := Scalar.extui v72
  let c0_i32_60 : BitVec 32 := 0#32
  let v74 : BitVec 1 := Scalar.cmpi .ne v73 c0_i32_60
  v74

def k0_off1 (i : grid0.Coords) : Fin 2 → Nat :=
  let c0_5519 : Index := 0#32
  let arg0 : BitVec 32 := BitVec.ofNat 32 (i 0).val
  let v8079 : Index := Scalar.indexCast arg0
  ![0, v8079.toNat]
def k0_off2 (i : grid0.Coords) : Fin 2 → Nat :=
  let c1_5521 : Index := 1#32
  let arg0 : BitVec 32 := BitVec.ofNat 32 (i 0).val
  let v8084 : Index := Scalar.indexCast arg0
  ![1, v8084.toNat]
def k0_off3 (i : grid0.Coords) : Fin 2 → Nat :=
  let c2_5522 : Index := 2#32
  let arg0 : BitVec 32 := BitVec.ofNat 32 (i 0).val
  let v8090 : Index := Scalar.indexCast arg0
  ![2, v8090.toNat]
def k0_off4 (i : grid0.Coords) : Fin 2 → Nat :=
  let c3_5523 : Index := 3#32
  let arg0 : BitVec 32 := BitVec.ofNat 32 (i 0).val
  let v8096 : Index := Scalar.indexCast arg0
  ![3, v8096.toNat]
def k0_off5 (i : grid0.Coords) : Fin 2 → Nat :=
  let c4_5524 : Index := 4#32
  let arg0 : BitVec 32 := BitVec.ofNat 32 (i 0).val
  let v8102 : Index := Scalar.indexCast arg0
  ![4, v8102.toNat]
def k0_off6 (i : grid0.Coords) : Fin 2 → Nat :=
  let c5_5525 : Index := 5#32
  let arg0 : BitVec 32 := BitVec.ofNat 32 (i 0).val
  let v8108 : Index := Scalar.indexCast arg0
  ![5, v8108.toNat]
def k0_off7 (i : grid0.Coords) : Fin 2 → Nat :=
  let c6 : Index := 6#32
  let arg0 : BitVec 32 := BitVec.ofNat 32 (i 0).val
  let v8114 : Index := Scalar.indexCast arg0
  ![6, v8114.toNat]
def k0_off8 (i : grid0.Coords) : Fin 2 → Nat :=
  let c7 : Index := 7#32
  let arg0 : BitVec 32 := BitVec.ofNat 32 (i 0).val
  let v8120 : Index := Scalar.indexCast arg0
  ![7, v8120.toNat]
def k0_off9 (i : grid0.Coords) : Fin 2 → Nat :=
  let c8 : Index := 8#32
  let arg0 : BitVec 32 := BitVec.ofNat 32 (i 0).val
  let v8126 : Index := Scalar.indexCast arg0
  ![8, v8126.toNat]
def k0_off10 (i : grid0.Coords) : Fin 2 → Nat :=
  let c9 : Index := 9#32
  let arg0 : BitVec 32 := BitVec.ofNat 32 (i 0).val
  let v8132 : Index := Scalar.indexCast arg0
  ![9, v8132.toNat]
def k0_off11 (i : grid0.Coords) : Fin 2 → Nat :=
  let c10 : Index := 10#32
  let arg0 : BitVec 32 := BitVec.ofNat 32 (i 0).val
  let v8138 : Index := Scalar.indexCast arg0
  ![10, v8138.toNat]
def k0_off12 (i : grid0.Coords) : Fin 2 → Nat :=
  let c11 : Index := 11#32
  let arg0 : BitVec 32 := BitVec.ofNat 32 (i 0).val
  let v8144 : Index := Scalar.indexCast arg0
  ![11, v8144.toNat]
def k0_off13 (i : grid0.Coords) : Fin 2 → Nat :=
  let c12 : Index := 12#32
  let arg0 : BitVec 32 := BitVec.ofNat 32 (i 0).val
  let v8150 : Index := Scalar.indexCast arg0
  ![12, v8150.toNat]
def k0_off14 (i : grid0.Coords) : Fin 2 → Nat :=
  let c13 : Index := 13#32
  let arg0 : BitVec 32 := BitVec.ofNat 32 (i 0).val
  let v8156 : Index := Scalar.indexCast arg0
  ![13, v8156.toNat]
def k0_off15 (i : grid0.Coords) : Fin 2 → Nat :=
  let c14 : Index := 14#32
  let arg0 : BitVec 32 := BitVec.ofNat 32 (i 0).val
  let v8162 : Index := Scalar.indexCast arg0
  ![14, v8162.toNat]
def k0_off16 (i : grid0.Coords) : Fin 2 → Nat :=
  let c15 : Index := 15#32
  let arg0 : BitVec 32 := BitVec.ofNat 32 (i 0).val
  let v8168 : Index := Scalar.indexCast arg0
  ![15, v8168.toNat]
def k0_off17 (i : grid0.Coords) : Fin 2 → Nat :=
  let c16 : Index := 16#32
  let arg0 : BitVec 32 := BitVec.ofNat 32 (i 0).val
  let v8174 : Index := Scalar.indexCast arg0
  ![16, v8174.toNat]
def k0_off18 (i : grid0.Coords) : Fin 2 → Nat :=
  let c17 : Index := 17#32
  let arg0 : BitVec 32 := BitVec.ofNat 32 (i 0).val
  let v8180 : Index := Scalar.indexCast arg0
  ![17, v8180.toNat]
def k0_off19 (i : grid0.Coords) : Fin 2 → Nat :=
  let c18 : Index := 18#32
  let arg0 : BitVec 32 := BitVec.ofNat 32 (i 0).val
  let v8186 : Index := Scalar.indexCast arg0
  ![18, v8186.toNat]
def k0_off20 (i : grid0.Coords) : Fin 2 → Nat :=
  let c19 : Index := 19#32
  let arg0 : BitVec 32 := BitVec.ofNat 32 (i 0).val
  let v8192 : Index := Scalar.indexCast arg0
  ![19, v8192.toNat]
def k0_off21 (i : grid0.Coords) : Fin 2 → Nat :=
  let c20 : Index := 20#32
  let arg0 : BitVec 32 := BitVec.ofNat 32 (i 0).val
  let v8198 : Index := Scalar.indexCast arg0
  ![20, v8198.toNat]
def k0_off22 (i : grid0.Coords) : Fin 2 → Nat :=
  let c21 : Index := 21#32
  let arg0 : BitVec 32 := BitVec.ofNat 32 (i 0).val
  let v8204 : Index := Scalar.indexCast arg0
  ![21, v8204.toNat]
def k0_off23 (i : grid0.Coords) : Fin 2 → Nat :=
  let c22 : Index := 22#32
  let arg0 : BitVec 32 := BitVec.ofNat 32 (i 0).val
  let v8210 : Index := Scalar.indexCast arg0
  ![22, v8210.toNat]
def k0_off24 (i : grid0.Coords) : Fin 2 → Nat :=
  let c23 : Index := 23#32
  let arg0 : BitVec 32 := BitVec.ofNat 32 (i 0).val
  let v8216 : Index := Scalar.indexCast arg0
  ![23, v8216.toNat]
def k0_off25 (i : grid0.Coords) : Fin 2 → Nat :=
  let c24 : Index := 24#32
  let arg0 : BitVec 32 := BitVec.ofNat 32 (i 0).val
  let v8222 : Index := Scalar.indexCast arg0
  ![24, v8222.toNat]
def k0_off26 (i : grid0.Coords) : Fin 2 → Nat :=
  let c25 : Index := 25#32
  let arg0 : BitVec 32 := BitVec.ofNat 32 (i 0).val
  let v8228 : Index := Scalar.indexCast arg0
  ![25, v8228.toNat]
def k0_off27 (i : grid0.Coords) : Fin 2 → Nat :=
  let c26 : Index := 26#32
  let arg0 : BitVec 32 := BitVec.ofNat 32 (i 0).val
  let v8234 : Index := Scalar.indexCast arg0
  ![26, v8234.toNat]
def k0_off28 (i : grid0.Coords) : Fin 2 → Nat :=
  let c27 : Index := 27#32
  let arg0 : BitVec 32 := BitVec.ofNat 32 (i 0).val
  let v8240 : Index := Scalar.indexCast arg0
  ![27, v8240.toNat]
def k0_off29 (i : grid0.Coords) : Fin 2 → Nat :=
  let c28 : Index := 28#32
  let arg0 : BitVec 32 := BitVec.ofNat 32 (i 0).val
  let v8246 : Index := Scalar.indexCast arg0
  ![28, v8246.toNat]
def k0_off30 (i : grid0.Coords) : Fin 2 → Nat :=
  let c29 : Index := 29#32
  let arg0 : BitVec 32 := BitVec.ofNat 32 (i 0).val
  let v8252 : Index := Scalar.indexCast arg0
  ![29, v8252.toNat]
def k0_off31 (i : grid0.Coords) : Fin 2 → Nat :=
  let c30 : Index := 30#32
  let arg0 : BitVec 32 := BitVec.ofNat 32 (i 0).val
  let v8258 : Index := Scalar.indexCast arg0
  ![30, v8258.toNat]
def k0_off32 (i : grid0.Coords) : Fin 2 → Nat :=
  let c31 : Index := 31#32
  let arg0 : BitVec 32 := BitVec.ofNat 32 (i 0).val
  let v8264 : Index := Scalar.indexCast arg0
  ![31, v8264.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.Proj.lean ====
/-
  Hand-written, untrusted. The value of `ProjIdeal`: the memory projection's result array, block by block, is the
  reference's product of the memory rows with the projection weights.
-/
module

public import proofs.«01_k».proof.Defs
public import proofs.«01_k».proof.Proof.Gen.ProjIdeal.Frame
public import proofs.«01_k».proof.Proof.Gen.RefProjIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.ProjValue

open Cert.ProjIdeal Cert.ProjIdeal.Gen

variable (m : (ℓ : Loc nD τ sig) → Buf (Elt Ideal) ℓ)

/-- The reference's result over the kernel's argument arrays. -/
abbrev REF (x : FVec Ideal S2x4096x2048 .f32) (w : FVec Ideal S1x2048x4608 .f32) : FVec Ideal S8192x4608 .f32 :=
  Cert.RefProjIdeal.Read.val_main_v2 (F := Ideal) x w

/-- Every window's block index at every point. -/
theorem idx : ∀ t : Fin cfg0.N, win0_0.index t = ![t.val / 3, 0] ∧ win0_1.index t = ![0, 0] ∧ win0_2.index t = ![t.val / 3, t.val % 3] :=
  (by decide +kernel : ∀ t : Fin grid0.N, win0_0.index t = ![t.val / 3, 0] ∧ win0_1.index t = ![0, 0] ∧ win0_2.index t = ![t.val / 3, t.val % 3])

/-- The points of one row of the grid read the same row block of `x`. -/
theorem rows_eq (c : Dev nD) (t t' : Fin cfg0.N) (h : t.val / 3 = t'.val / 3) : iblk m c 0 t = iblk m c 0 t' := by
  funext x
  blk_ext [iblk, V, idx t, idx t']

/-- The carried scratch after point `n` holds the row block of `x` of that point. -/
theorem scratch (c : Dev nD) (n : ℕ) (h : n < cfg0.N) : (outsAt0 m c n h).2 = k0_pay1 (iblk m c 0 ⟨n, h⟩) := by
  induction n with
  | zero =>
    rw [outsAt0_A m c ⟨0, h⟩ (Nat.zero_mod _) (fun h => by (try dsimp only at h); omega) (fun h => by (try dsimp only at h); omega)]
    dsimp only
    frame_out
  | succ n ih =>
    by_cases h0 : (n + 1) % 3 = 0
    · rw [outsAt0_A m c ⟨n + 1, h⟩ h0 (by dsimp only; omega) (by dsimp only; omega)]
      dsimp only
      frame_out
    · have hs : (outsAt0 m c (n + 1) h).2 = (outsAt0 m c n (Nat.lt_of_succ_lt h)).2 := by
        by_cases h1 : (n + 1) % 3 = 1
        · rw [outsAt0_B m c ⟨n + 1, h⟩ h0 h1 (by dsimp only; omega)]
          rfl
        · rw [outsAt0_C m c ⟨n + 1, h⟩ h0 h1 (by dsimp only; omega)]
          rfl
      rw [hs, ih, rows_eq m c ⟨n, Nat.lt_of_succ_lt h⟩ ⟨n + 1, h⟩ (by dsimp only; omega)]

/-- The first column block's product, entry by entry, is a sum of products of the operands' entries. -/
theorem pay2_apply (A : Vec Ideal S1024x2048 .f32) (B : Vec Ideal S2048x1536 .bf16) (y : S1024x1536.Idx) :
    k0_pay2 (k0_pay1 A) B y = ∑ k : Fin 2048, A (ix2 (y 0) k) * B (ix2 k (y 1)) := by
  pointwise [k0_pay1, k0_pay2]

/-- The second column block's product, entry by entry. -/
theorem pay3_apply (A : Vec Ideal S1024x2048 .f32) (B : Vec Ideal S2048x1536 .bf16) (y : S1024x1536.Idx) :
    k0_pay3 (k0_pay1 A) B y = ∑ k : Fin 2048, A (ix2 (y 0) k) * B (ix2 k (y 1)) := by
  pointwise [k0_pay1, k0_pay3]

/-- The third column block's product, entry by entry. -/
theorem pay4_apply (A : Vec Ideal S1024x2048 .f32) (B : Vec Ideal S2048x1536 .bf16) (y : S1024x1536.Idx) :
    k0_pay4 (k0_pay1 A) B y = ∑ k : Fin 2048, A (ix2 (y 0) k) * B (ix2 k (y 1)) := by
  pointwise [k0_pay1, k0_pay4]

/-- The flattened memory rows the launch hands the kernel, read at an index. -/
theorem x_read (c : Dev nD) (i : S8192x2048.Idx) : V m c main_v0 i
    = m ((c : Thread nD τ).loc main_arg0) (ix3 ⟨(i 0).val / 4096, by idx_bounds i; omega⟩ ⟨(i 0).val % 4096, by omega⟩ (i 1)) := by
  entry_read
  pointwise

/-- The projection weights the launch hands the kernel, read at an index. -/
theorem w_read (c : Dev nD) (i : S2048x4608.Idx) : V m c main_v2 i = m ((c : Thread nD τ).loc main_arg1) (ix3 0 (i 0) (i 1)) := by
  entry_read
  pointwise

/-- What the body leaves in the result's buffer at point `t` is the reference's block. -/
theorem point (c : Dev nD) (t : Fin cfg0.N) (y) : (outsAt0 m c t.val t.isLt).1 y
    = REF (m ((c : Thread nD τ).loc main_arg0)) (m ((c : Thread nD τ).loc main_arg1)) (((cfg0.win 2).blk t).view.emb y) := by
  pointwise [REF, Cert.RefProjIdeal.Read.val_main_v2, Cert.RefProjIdeal.Read.val_main_v1, Cert.RefProjIdeal.Read.val_main_v0]
  by_cases h0 : t.val % 3 = 0
  · rw [outsAt0_A m c t h0 (by omega) (by omega)]
    frame_out
    refine (pay2_apply _ _ _).trans (Finset.sum_congr rfl fun k _ => congrArg₂ (· * ·) ?_ ?_)
    · refine (x_read m c _).trans ?_
      blk_ext [idx t]
    · blk_simp [iblk]
      refine (w_read m c _).trans ?_
      blk_ext [idx t, h0] <;> exact (Rect.idx_unit_val _ _ _ _ _).trans (by simp [ix2])
  · have hs := scratch m c (t.val - 1) (by omega)
    rw [rows_eq m c ⟨t.val - 1, by omega⟩ t (by dsimp only; omega)] at hs
    by_cases h1 : t.val % 3 = 1
    · rw [outsAt0_B m c t h0 h1 (by omega)]
      frame_out
      rw [read_unread_whole, hs]
      refine (pay3_apply _ _ _).trans (Finset.sum_congr rfl fun k _ => congrArg₂ (· * ·) ?_ ?_)
      · refine (x_read m c _).trans ?_
        blk_ext [idx t]
      · blk_simp [iblk]
        refine (w_read m c _).trans ?_
        blk_ext [idx t, h1] <;> exact (Rect.idx_unit_val _ _ _ _ _).trans (by simp [ix2])
    · have h2 : t.val % 3 = 2 := by omega
      rw [outsAt0_C m c t h0 h1 h2]
      frame_out
      rw [read_unread_whole, hs]
      refine (pay4_apply _ _ _).trans (Finset.sum_congr rfl fun k _ => congrArg₂ (· * ·) ?_ ?_)
      · refine (x_read m c _).trans ?_
        blk_ext [idx t]
      · blk_simp [iblk]
        refine (w_read m c _).trans ?_
        blk_ext [idx t, h2] <;> exact (Rect.idx_unit_val _ _ _ _ _).trans (by simp [ix2])

/-- The result array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.Proof.ProjValue

end
-- ==== Proof.Kv.lean ====
/-
  Hand-written, untrusted. The value of `KvIdeal`: the memory projection's result array, block by block, is the
  reference's product of the memory rows with the projection weights.
-/
module

public import proofs.«01_k».proof.Defs
public import proofs.«01_k».proof.Proof.Gen.KvIdeal.Value
public import proofs.«01_k».proof.Proof.Gen.RefKvIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.KvValue

open Cert.KvIdeal Cert.KvIdeal.Gen

variable (m : (ℓ : Loc nD τ sig) → Buf (Elt Ideal) ℓ)

/-- The reference's result over the kernel's argument arrays. -/
abbrev REF (x : FVec Ideal S2x256x2048 .f32) (w : FVec Ideal S1x2048x1024 .f32) : FVec Ideal S512x1024 .bf16 :=
  Cert.RefKvIdeal.Read.val_main_v3 (F := Ideal) x w

/-- Every window's block index at every point. -/
theorem idx : ∀ t : Fin cfg0.N, win0_0.index t = ![0, 0] ∧ win0_1.index t = ![0, t.val] ∧ win0_2.index t = ![0, t.val] :=
  (by decide +kernel : ∀ t : Fin grid0.N, win0_0.index t = ![0, 0] ∧ win0_1.index t = ![0, t.val] ∧ win0_2.index t = ![0, t.val])

/-- The value the body stores at block index `y` of point `t` is the reference's at the array index it sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, Cert.RefKvIdeal.Read.val_main_v3, Cert.RefKvIdeal.Read.val_main_v2, Cert.RefKvIdeal.Read.val_main_v1, Cert.RefKvIdeal.Read.val_main_v0]
  blk_point [iblk, V, idx t]

/-- The result array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.KvValue

end
-- ==== Proof.MixMath.lean ====
/-
  Hand-written, untrusted. What the mixing call computes, entry by entry.
-/
module

public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.MixValue

/-- The tanh form of the gelu. -/
def gelu (x : EReal) : EReal :=
  x * (Ideal.ofBits .f32 1056964608#32 * (1 + Ideal.tanh (Ideal.ofBits .f32 1061962282#32
    * (x + Ideal.ofBits .f32 1027024659#32 * (x * (x * x))))))

/-- The layer norm of a row `r` at column `j`, with gain `g` and shift `b`; `N` is the row's length. -/
def ln {n : ℕ} (N : EReal) (r : Fin n → EReal) (g b : EReal) (j : Fin n) : EReal :=
  (r j - Ideal.div (∑ k, r k) N)
    * Ideal.rsqrt (Ideal.div (∑ k, (r k - Ideal.div (∑ l, r l) N) * (r k - Ideal.div (∑ l, r l) N)) N
      + Ideal.ofBits .f32 925353388#32) * g + b

/-- The causal mask: `x` where the column does not come after the row, else zero. -/
def tri (i j : Fin 128) (x : EReal) : EReal :=
  Scalar.select (IntOp.cmpi .sge (BitVec.ofNat 32 i.val) (BitVec.ofNat 32 j.val)) x 0

/-- One gated value: `u` times the masked spatial weights' product with a column, plus the bias. -/
def gate (u : EReal) (w v : Fin 128 → EReal) (b : EReal) (i : Fin 128) : EReal := u * (∑ j, tri i j (w j) * v j + b)

/-- The scaled score of a query with a key. -/
def score (q k : Fin 128 → EReal) : EReal := (∑ d, q d * k d) * Ideal.ofBits .f32 1035273459#32

/-- The largest score. -/
def top (s : Fin 256 → EReal) : EReal := Finset.univ.fold max (Ideal.ofBits .f32 4286578688#32) s

/-- The softmax of the scores `s` applied to the values `v`, divided at the end. -/
def att (s v : Fin 256 → EReal) : EReal :=
  Ideal.div (∑ m, Ideal.exp (s m - top s) * v m) (∑ m, Ideal.exp (s m - top s))

/-- The same with the softmax's weights divided first. -/
def attRef (s v : Fin 256 → EReal) : EReal :=
  ∑ m, v m * Ideal.div (Ideal.exp (s m - max (Ideal.ofBits .f32 4286578688#32) (top s)))
    (∑ m, Ideal.exp (s m - max (Ideal.ofBits .f32 4286578688#32) (top s)))

/-- The word of minus infinity is the least extended real. -/
theorem bot_word : Ideal.ofBits .f32 4286578688#32 = ⊥ := by
  simp [Ideal.ofBits, Ideal.ieee]

/-- For real scores both ways of dividing agree. -/
theorem att_eq (s v : Fin 256 → EReal) (hs : ∀ m, ∃ r : ℝ, s m = r) : attRef s v = att s v := by
  choose r hr using hs
  have htop : ∃ a : ℝ, top s = a := by
    unfold top
    rw [bot_word]
    have h1 : ∀ S : Finset (Fin 256), S.Nonempty → ∃ a : ℝ, S.fold max ⊥ s = (a : EReal) := by
      intro S hS
      induction hS using Finset.Nonempty.cons_induction with
      | singleton a => exact ⟨r a, by rw [Finset.fold_singleton, hr, max_eq_left bot_le]⟩
      | cons a S ha hS ih =>
        obtain ⟨b, hb⟩ := ih
        exact ⟨max (r a) b, by rw [Finset.fold_cons, hb, hr]; exact (EReal.coe_strictMono.monotone.map_max).symm⟩
    exact h1 _ Finset.univ_nonempty
  obtain ⟨a, ha⟩ := htop
  unfold attRef att
  rw [bot_word, max_eq_right bot_le, ha]
  have he : ∀ m, Ideal.exp (s m - (a : EReal)) = ((Real.exp (r m - a) : ℝ) : EReal) := fun m => by
    rw [hr, ← EReal.coe_sub]; rfl
  simp only [he]
  have hsum : (∑ m, ((Real.exp (r m - a) : ℝ) : EReal)) = ((∑ m, Real.exp (r m - a) : ℝ) : EReal) := by
    have h2 : ∀ S : Finset (Fin 256), (∑ m ∈ S, ((Real.exp (r m - a) : ℝ) : EReal)) = ((∑ m ∈ S, Real.exp (r m - a) : ℝ) : EReal) := by
      intro S
      induction S using Finset.cons_induction with
      | empty => simp
      | cons x S hx ih => rw [Finset.sum_cons, Finset.sum_cons, EReal.coe_add, ih]
    exact h2 _
  rw [hsum]
  have hpos : 0 < ∑ m, Real.exp (r m - a) := Finset.sum_pos (fun m _ => Real.exp_pos _) Finset.univ_nonempty
  simp only [Ideal.div_coe hpos.ne']
  have hd : ∀ (S : Finset (Fin 256)) (f : Fin 256 → EReal) (k : ℝ) (hk : 0 ≤ k), (∑ m ∈ S, f m) * (k : EReal) = ∑ m ∈ S, f m * (k : EReal) := by
    intro S f k hk
    induction S using Finset.cons_induction with
    | empty => simp
    | cons x S hx ih => rw [Finset.sum_cons, Finset.sum_cons, EReal.right_distrib_of_nonneg_of_ne_top (EReal.coe_nonneg.mpr hk) (EReal.coe_ne_top k), ih]
  rw [hd _ _ _ (one_div_pos.mpr hpos).le]
  exact Finset.sum_congr rfl fun m _ => by rw [mul_left_comm, mul_assoc, mul_comm (v m)]

/-- The three mixers' outputs side by side, at column `k`. -/
def cat (d : Fin 1024 → EReal) (g a : Fin 512 → EReal) (k : Fin 2048) : EReal :=
  if h : k.val < 1024 then d ⟨k.val, h⟩ else if h : k.val - 1024 < 512 then g ⟨k.val - 1024, h⟩ else a ⟨k.val - 1024 - 512, by omega⟩

/-- The row that the first norm is taken of: the scaled residual plus the output projection. -/
def row (x : Fin 2048 → EReal) (c : Fin 2048 → EReal) (w : Fin 2048 → Fin 2048 → EReal) (k : Fin 2048) : EReal :=
  Ideal.ofBits .f32 1066940400#32 * x k + ∑ q, c q * w q k

end Cert.Proof.MixValue

end
-- ==== Proof.MixKer.lean ====
/-
  Hand-written, untrusted. The stored values of the mixing call, entry by entry.
-/
module

public import proofs.«01_k».proof.Defs
public import proofs.«01_k».proof.Proof.MixMath
public import proofs.«01_k».proof.Proof.Gen.MixIdeal.Frame
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.MixValue

open Cert.MixIdeal Cert.MixIdeal.Gen

/-- The gated half's gelu, as the second row part computes it. -/
abbrev gel (u : Vec Ideal S256x512 .f32) : FVec Ideal S256x512 .f32 := k0_pay31 u

/-- The other half's gelu and norm, as the first row part computes them. -/
abbrev nrm (v : Vec Ideal S256x512 .f32) (g b : Vec Ideal S1x512 .f32) : FVec Ideal S256x512 .bf16 := k0_pay12 v g b

/-- The gated values of one row part from the masked weights, the biases and the two halves. -/
abbrev spat (w0 w1 w2 w3 : FVec Ideal S128x128 .bf16) (s : FVec Ideal S128x4 .f32) (u : FVec Ideal S256x512 .f32) (n : FVec Ideal S256x512 .bf16) :
    FVec Ideal S256x512 .bf16 :=
  k0_pay19 w3 s u n (k0_pay13 w0 w1 w2 w3 s u n) (k0_pay14 w0 s u n) (k0_pay15 w1 s u n) (k0_pay16 w2 n) (k0_pay17 u) (k0_pay18 s)

theorem gel_first (u : Vec Ideal S256x512 .f32) : k0_pay11 (k0_pay8 u) (k0_pay9 u) (k0_pay10 (F := Ideal)) = gel u := rfl

theorem nrm_second (v : Vec Ideal S256x512 .f32) (g b : Vec Ideal S1x512 .f32) : k0_pay34 (k0_pay32 v) (k0_pay33 v) g b = nrm v g b := rfl

theorem spat_second (w0 w1 w2 w3 : FVec Ideal S128x128 .bf16) (s : FVec Ideal S128x4 .f32) (u : FVec Ideal S256x512 .f32) (v : Vec Ideal S256x512 .f32) (g b : Vec Ideal S1x512 .f32) :
    k0_pay37 w0 w1 w2 w3 s u (k0_pay34 (k0_pay32 v) (k0_pay33 v) g b) (k0_pay35 w0 s u (k0_pay32 v) (k0_pay33 v) g b)
      (k0_pay36 w1 s u (k0_pay32 v) (k0_pay33 v) g b) = spat w0 w1 w2 w3 s u (nrm v g b) := rfl

/-- One row part's stored value. -/
abbrev body (sp : FVec Ideal S256x512 .bf16) (q : Vec Ideal S256x512 .f32) (k0 v0 k1 v1 k2 v2 k3 v3 : Vec Ideal S1x256x128 .bf16)
    (o : Vec Ideal S256x1024 .f32) (w : Vec Ideal S2048x2048 .bf16) (x : Vec Ideal S256x2048 .f32) (g b : Vec Ideal S1x2048 .f32) : FVec Ideal S256x2048 .f32 :=
  k0_pay29 (k0_pay26 g) (k0_pay27 b) (k0_pay28 sp (k0_pay20 q) (k0_pay21 q k0 v0) (k0_pay23 (k0_pay20 q) (k0_pay22 k1) v1) (k0_pay24 (k0_pay20 q) k2 v2) (k0_pay25 k3) v3 o w x)

theorem body_second (sp : FVec Ideal S256x512 .bf16) (q : Vec Ideal S256x512 .f32) (k0 v0 k1 v1 k2 v2 k3 v3 : Vec Ideal S1x256x128 .bf16)
    (o : Vec Ideal S256x1024 .f32) (w : Vec Ideal S2048x2048 .bf16) (x : Vec Ideal S256x2048 .f32) (g b : Vec Ideal S1x2048 .f32) :
    k0_pay49 sp (k0_pay39 q k0 v0) (k0_pay44 (k0_pay40 v1) (k0_pay42 q k1) (k0_pay43 q k1) (constant S256x128 .f32 0x00000000#32)) (k0_pay45 (k0_pay38 q) k2 v2)
      (k0_pay46 v3) (k0_pay47 (k0_pay38 q) k3) (k0_pay48 (k0_pay38 q) k3) o w x g b = body sp q k0 v0 k1 v1 k2 v2 k3 v3 o w x g b := rfl

/-- The gated half's gelu, entry by entry. -/
theorem gel_apply (u : Vec Ideal S256x512 .f32) (p : Fin 256) (k : Fin 512) : gel u (ix2 p k) = gelu (u (ix2 p k)) := by
  pointwise [gel, k0_pay31]
  rfl

/-- The normed half, entry by entry. -/
theorem nrm_apply (v : Vec Ideal S256x512 .f32) (g b : Vec Ideal S1x512 .f32) (p : Fin 256) (k : Fin 512) : nrm v g b (ix2 p k)
    = ln (Ideal.ofBits .f32 1140850688#32) (fun c : Fin 512 => gelu (v (ix2 p c))) (g (ix2 0 k)) (b (ix2 0 k)) k := by
  pointwise [nrm, k0_pay12]
  rfl

/-- The masked weights, entry by entry. -/
theorem pay3_apply (w : Vec Ideal S1x128x128 .f32) (i j : Fin 128) : k0_pay3 w (ix2 i j) = tri i j (w (ix3 0 i j)) := by
  pointwise [k0_pay3, k0_pay2]
  rfl

theorem pay4_eq (w : Vec Ideal S1x128x128 .f32) : k0_pay4 w = k0_pay3 w := rfl
theorem pay5_eq (w : Vec Ideal S1x128x128 .f32) : k0_pay5 w = k0_pay3 w := rfl
theorem pay6_eq (w : Vec Ideal S1x128x128 .f32) : k0_pay6 w = k0_pay3 w := rfl

/-- The biases, entry by entry. -/
theorem pay7_apply (s : Vec Ideal S128x4 .f32) (i : S128x4.Idx) : k0_pay7 s i = s i := by
  pointwise [k0_pay7]

/-- One head's attention, entry by entry. -/
theorem head_apply (q : Vec Ideal S256x512 .f32) (k v : Vec Ideal S1x256x128 .bf16) (p : Fin 256) (d : Fin 128) :
    k0_pay21 q k v (ix2 p d) = att (fun t => score (fun d => q (ix2 p ⟨d.val, by omega⟩)) (fun d => k (ix3 0 t d))) (fun t => v (ix3 0 t d)) := by
  pointwise [k0_pay21, k0_pay20]
  rfl

theorem head1_apply (q : Vec Ideal S256x512 .f32) (k v : Vec Ideal S1x256x128 .bf16) (p : Fin 256) (d : Fin 128) :
    k0_pay23 (k0_pay20 q) (k0_pay22 k) v (ix2 p d) = att (fun t => score (fun d => q (ix2 p ⟨128 + d.val, by omega⟩)) (fun d => k (ix3 0 t d))) (fun t => v (ix3 0 t d)) := by
  pointwise [k0_pay23, k0_pay22, k0_pay20]
  rfl

theorem head2_apply (q : Vec Ideal S256x512 .f32) (k v : Vec Ideal S1x256x128 .bf16) (p : Fin 256) (d : Fin 128) :
    k0_pay24 (k0_pay20 q) k v (ix2 p d) = att (fun t => score (fun d => q (ix2 p ⟨256 + d.val, by omega⟩)) (fun d => k (ix3 0 t d))) (fun t => v (ix3 0 t d)) := by
  pointwise [k0_pay24, k0_pay20]
  rfl

/-- The fourth head's attention, from the second row part's pieces. -/
abbrev head3 (q : Vec Ideal S256x512 .f32) (k v : Vec Ideal S1x256x128 .bf16) : FVec Ideal S256x128 .bf16 :=
  k0_pay44 (k0_pay46 v) (k0_pay48 (k0_pay38 q) k) (truncf .bf16 (k0_pay47 (k0_pay38 q) k) bitsLt_bf16_f32) (constant S256x128 .f32 0x00000000#32)

theorem head3_apply (q : Vec Ideal S256x512 .f32) (k v : Vec Ideal S1x256x128 .bf16) (p : Fin 256) (d : Fin 128) :
    head3 q k v (ix2 p d) = att (fun t => score (fun d => q (ix2 p ⟨384 + d.val, by omega⟩)) (fun d => k (ix3 0 t d))) (fun t => v (ix3 0 t d)) := by
  pointwise [head3, k0_pay44, k0_pay46, k0_pay48, k0_pay47, k0_pay38]
  rfl

/-- The first chunk's gated values, entry by entry. -/
theorem pay13_apply (w0 w1 w2 w3 : FVec Ideal S128x128 .bf16) (s : FVec Ideal S128x4 .f32) (u : FVec Ideal S256x512 .f32) (n : FVec Ideal S256x512 .bf16) (i : Fin 128) (k : Fin 512) :
    k0_pay13 w0 w1 w2 w3 s u n (ix2 i k) = u (ix2 ⟨i.val, by omega⟩ k) * (∑ j : Fin 128, (![w0, w1, w2, w3] : Fin 4 → FVec Ideal S128x128 .bf16) ⟨k.val / 128, by omega⟩ (ix2 i j) * n (ix2 ⟨j.val, by omega⟩ k) + s (ix2 i ⟨k.val / 128, by omega⟩)) := by
  pointwise [k0_pay13]
  by_cases h0 : k.val < 128
  · rw [dif_pos h0]
    have e : (⟨k.val / 128, by omega⟩ : Fin 4) = 0 := Fin.ext (by simp; omega)
    rw [e]; rfl
  rw [dif_neg h0]
  by_cases h1 : k.val - 128 < 128
  · rw [dif_pos h1]
    have e : (⟨k.val / 128, by omega⟩ : Fin 4) = 1 := Fin.ext (by simp; omega)
    have e2 : (⟨128 + (k.val - 128), by omega⟩ : Fin 512) = k := Fin.ext (by simp; omega)
    simp only [e, e2]; rfl
  rw [dif_neg h1]
  by_cases h2 : k.val - 128 - 128 < 128
  · rw [dif_pos h2]
    have e : (⟨k.val / 128, by omega⟩ : Fin 4) = 2 := Fin.ext (by simp; omega)
    have e2 : (⟨256 + (k.val - 128 - 128), by omega⟩ : Fin 512) = k := Fin.ext (by simp; omega)
    simp only [e, e2]; rfl
  · rw [dif_neg h2]
    have e : (⟨k.val / 128, by omega⟩ : Fin 4) = 3 := Fin.ext (by simp; omega)
    have e2 : (⟨384 + (k.val - 128 - 128 - 128), by omega⟩ : Fin 512) = k := Fin.ext (by simp; omega)
    simp only [e, e2]; rfl

/-- The gated values of a row part, entry by entry. -/
theorem spat_apply (w0 w1 w2 w3 : FVec Ideal S128x128 .bf16) (s : FVec Ideal S128x4 .f32) (u : FVec Ideal S256x512 .f32) (n : FVec Ideal S256x512 .bf16) (p : Fin 256) (k : Fin 512) :
    spat w0 w1 w2 w3 s u n (ix2 p k) = u (ix2 p k) * (∑ j : Fin 128, (![w0, w1, w2, w3] : Fin 4 → FVec Ideal S128x128 .bf16) ⟨k.val / 128, by omega⟩ (ix2 ⟨p.val % 128, by omega⟩ j)
      * n (ix2 ⟨p.val / 128 * 128 + j.val, by omega⟩ k) + s (ix2 ⟨p.val % 128, by omega⟩ ⟨k.val / 128, by omega⟩)) := by
  unfold spat k0_pay19 k0_pay14 k0_pay15 k0_pay16 k0_pay17 k0_pay18
  have hc := pay13_apply w0 w1 w2 w3 s u n
  generalize k0_pay13 w0 w1 w2 w3 s u n = c at hc
  pointwise
  by_cases hp : p.val < 128
  · rw [dif_pos hp, hc]
    have ep : (⟨p.val % 128, by omega⟩ : Fin 128) = ⟨p.val, hp⟩ := Fin.ext (by simp; omega)
    have ej : ∀ j : Fin 128, (⟨p.val / 128 * 128 + j.val, by omega⟩ : Fin 256) = ⟨j.val, by omega⟩ := fun j => Fin.ext (by simp; omega)
    simp only [ep, ej]
  rw [dif_neg hp]
  have ep : (⟨p.val % 128, by omega⟩ : Fin 128) = ⟨p.val - 128, by omega⟩ := Fin.ext (by simp; omega)
  have eu : (⟨128 + (p.val - 128), by omega⟩ : Fin 256) = p := Fin.ext (by simp; omega)
  have ej : ∀ j : Fin 128, (⟨p.val / 128 * 128 + j.val, by omega⟩ : Fin 256) = ⟨128 + j.val, by omega⟩ := fun j => Fin.ext (by simp; omega)
  simp only [ep, eu, ej]
  by_cases h0 : k.val < 128
  · rw [dif_pos h0]
    have e : (⟨k.val / 128, by omega⟩ : Fin 4) = 0 := Fin.ext (by simp; omega)
    rw [e]; rfl
  rw [dif_neg h0]
  by_cases h1 : k.val - 128 < 128
  · rw [dif_pos h1]
    have e : (⟨k.val / 128, by omega⟩ : Fin 4) = 1 := Fin.ext (by simp; omega)
    have e2 : (⟨128 + (k.val - 128), by omega⟩ : Fin 512) = k := Fin.ext (by simp; omega)
    simp only [e, e2]; rfl
  rw [dif_neg h1]
  by_cases h2 : k.val - 128 - 128 < 128
  · rw [dif_pos h2]
    have e : (⟨k.val / 128, by omega⟩ : Fin 4) = 2 := Fin.ext (by simp; omega)
    have e2 : (⟨256 + (k.val - 128 - 128), by omega⟩ : Fin 512) = k := Fin.ext (by simp; omega)
    simp only [e, e2]; rfl
  · rw [dif_neg h2]
    have e : (⟨k.val / 128, by omega⟩ : Fin 4) = 3 := Fin.ext (by simp; omega)
    have e2 : (⟨384 + (k.val - 128 - 128 - 128), by omega⟩ : Fin 512) = k := Fin.ext (by simp; omega)
    simp only [e, e2]; rfl

/-- The three mixers' outputs of a row part side by side. -/
abbrev catv (sp : FVec Ideal S256x512 .bf16) (a0 a1 a2 a3 : FVec Ideal S256x128 .bf16) (o : Vec Ideal S256x1024 .f32) : FVec Ideal S256x2048 .bf16 :=
  concatenate S256x2048 1 [⟨S256x1024, truncf .bf16 (shapeCast S256x1024 o shapeCasts_S256x1024_S256x1024) bitsLt_bf16_f32⟩, ⟨S256x512, sp⟩, ⟨S256x128, a0⟩, ⟨S256x128, a1⟩, ⟨S256x128, a2⟩, ⟨S256x128, a3⟩] concatenates_S256x1024_S256x512_S256x128_S256x128_S256x128_S256x128_S256x2048_d1

theorem catv_apply (sp : FVec Ideal S256x512 .bf16) (a0 a1 a2 a3 : FVec Ideal S256x128 .bf16) (o : Vec Ideal S256x1024 .f32) (p : Fin 256) (k : Fin 2048) :
    catv sp a0 a1 a2 a3 o (ix2 p k) = cat (fun c => o (ix2 p c)) (fun c => sp (ix2 p c))
      (fun c => (![a0, a1, a2, a3] : Fin 4 → FVec Ideal S256x128 .bf16) ⟨c.val / 128, by omega⟩ (ix2 p ⟨c.val % 128, by omega⟩)) k := by
  unfold cat
  pointwise [catv]
  by_cases h0 : k.val < 1024
  · rw [dif_pos h0, dif_pos h0]
  rw [dif_neg h0, dif_neg h0]
  by_cases h1 : k.val - 1024 < 512
  · rw [dif_pos h1, dif_pos h1]
  rw [dif_neg h1, dif_neg h1]
  by_cases g0 : k.val - 1024 - 512 < 128
  · rw [dif_pos g0]
    have e : (⟨(k.val - 1024 - 512) / 128, by omega⟩ : Fin 4) = 0 := Fin.ext (by simp; omega)
    have e2 : (⟨(k.val - 1024 - 512) % 128, by omega⟩ : Fin 128) = ⟨k.val - 1024 - 512, by omega⟩ := Fin.ext (by simp; omega)
    simp only [e, e2]; rfl
  rw [dif_neg g0]
  by_cases g1 : k.val - 1024 - 512 - 128 < 128
  · rw [dif_pos g1]
    have e : (⟨(k.val - 1024 - 512) / 128, by omega⟩ : Fin 4) = 1 := Fin.ext (by simp; omega)
    have e2 : (⟨(k.val - 1024 - 512) % 128, by omega⟩ : Fin 128) = ⟨k.val - 1024 - 512 - 128, by omega⟩ := Fin.ext (by simp; omega)
    simp only [e, e2]; rfl
  rw [dif_neg g1]
  by_cases g2 : k.val - 1024 - 512 - 128 - 128 < 128
  · rw [dif_pos g2]
    have e : (⟨(k.val - 1024 - 512) / 128, by omega⟩ : Fin 4) = 2 := Fin.ext (by simp; omega)
    have e2 : (⟨(k.val - 1024 - 512) % 128, by omega⟩ : Fin 128) = ⟨k.val - 1024 - 512 - 128 - 128, by omega⟩ := Fin.ext (by simp; omega)
    simp only [e, e2]; rfl
  rw [dif_neg g2]
  have e : (⟨(k.val - 1024 - 512) / 128, by omega⟩ : Fin 4) = 3 := Fin.ext (by simp; omega)
  have e2 : (⟨(k.val - 1024 - 512) % 128, by omega⟩ : Fin 128) = ⟨k.val - 1024 - 512 - 128 - 128 - 128, by omega⟩ := Fin.ext (by simp; omega)
  rw [e, e2]; rfl

/-- The joined outputs of a row part with its heads read, entry by entry. -/
theorem catv_heads (sp : FVec Ideal S256x512 .bf16) (q : Vec Ideal S256x512 .f32) (k0 v0 k1 v1 k2 v2 k3 v3 : Vec Ideal S1x256x128 .bf16) (o : Vec Ideal S256x1024 .f32) (p : Fin 256) (k : Fin 2048) :
    catv sp (k0_pay21 q k0 v0) (k0_pay23 (k0_pay20 q) (k0_pay22 k1) v1) (k0_pay24 (k0_pay20 q) k2 v2) (head3 q k3 v3) o (ix2 p k)
      = cat (fun c => o (ix2 p c)) (fun c => sp (ix2 p c))
      (fun c => att (fun t => score (fun d => q (ix2 p ⟨c.val / 128 * 128 + d.val, by omega⟩)) (fun d => (![k0, k1, k2, k3] : Fin 4 → Vec Ideal S1x256x128 .bf16) ⟨c.val / 128, by omega⟩ (ix3 0 t d)))
        (fun t => (![v0, v1, v2, v3] : Fin 4 → Vec Ideal S1x256x128 .bf16) ⟨c.val / 128, by omega⟩ (ix3 0 t ⟨c.val % 128, by omega⟩))) k := by
  rw [catv_apply]
  congr 1
  funext c
  have hq : ∀ (n : ℕ) (hn : c.val / 128 = n) (d : Fin 128), (⟨c.val / 128 * 128 + d.val, by omega⟩ : Fin 512) = ⟨n * 128 + d.val, by omega⟩ := fun n hn d => Fin.ext (by simp [hn])
  obtain h | h | h | h : c.val / 128 = 0 ∨ c.val / 128 = 1 ∨ c.val / 128 = 2 ∨ c.val / 128 = 3 := by omega
  · have e : (⟨c.val / 128, by omega⟩ : Fin 4) = 0 := Fin.ext (by simp; omega)
    simp only [hq _ h, e]
    refine (head_apply q k0 v0 p _).trans ?_
    simp
  · have e : (⟨c.val / 128, by omega⟩ : Fin 4) = 1 := Fin.ext (by simp; omega)
    simp only [hq _ h, e]
    exact head1_apply q k1 v1 p _
  · have e : (⟨c.val / 128, by omega⟩ : Fin 4) = 2 := Fin.ext (by simp; omega)
    simp only [hq _ h, e]
    exact head2_apply q k2 v2 p _
  · have e : (⟨c.val / 128, by omega⟩ : Fin 4) = 3 := Fin.ext (by simp; omega)
    simp only [hq _ h, e]
    exact head3_apply q k3 v3 p _

/-- The output projection, the residual and the norm's centring, over the joined outputs. -/
abbrev centred (c : FVec Ideal S256x2048 .bf16) (w : Vec Ideal S2048x2048 .bf16) (x : Vec Ideal S256x2048 .f32) : FVec Ideal S256x2048 .f32 :=
  have r : FVec Ideal S256x2048 .f32 := addf (mulf (broadcast S256x2048 (Scalar.ofBits .f32 0x3F9837F0#32)) (shapeCast S256x2048 x shapeCasts_S256x2048_S256x2048))
    (matmul (φ₁ := .bf16) (φ₂ := .bf16) dot_S256x2048_S2048x2048_S256x2048_1_0_0_1_n_n none c (shapeCast S2048x2048 w shapeCasts_S2048x2048_S2048x2048) (constant S256x2048 .f32 0x00000000#32))
  subf r (broadcastTo S256x2048 (divf (shapeCast S256x1 (multiReduction .add [1] S256 r 0x00000000#32 reduces_S256x2048_S256 (.inl rfl) rfl) shapeCasts_S256_S256x1)
    (broadcast S256x1 (Scalar.ofBits .f32 0x45000000#32))) broadcasts_S256x1_S256x2048)

theorem body_eq (sp : FVec Ideal S256x512 .bf16) (q : Vec Ideal S256x512 .f32) (k0 v0 k1 v1 k2 v2 k3 v3 : Vec Ideal S1x256x128 .bf16)
    (o : Vec Ideal S256x1024 .f32) (w : Vec Ideal S2048x2048 .bf16) (x : Vec Ideal S256x2048 .f32) (g b : Vec Ideal S1x2048 .f32) :
    body sp q k0 v0 k1 v1 k2 v2 k3 v3 o w x g b
    = k0_pay29 (k0_pay26 g) (k0_pay27 b) (centred (catv sp (k0_pay21 q k0 v0) (k0_pay23 (k0_pay20 q) (k0_pay22 k1) v1) (k0_pay24 (k0_pay20 q) k2 v2) (head3 q k3 v3) o) w x) := rfl

/-- The norm over the joined outputs, entry by entry. -/
theorem norm_apply (c : FVec Ideal S256x2048 .bf16) (w : Vec Ideal S2048x2048 .bf16) (x : Vec Ideal S256x2048 .f32) (g b : Vec Ideal S1x2048 .f32) (p : Fin 256) (k : Fin 2048) :
    k0_pay29 (k0_pay26 g) (k0_pay27 b) (centred c w x) (ix2 p k)
    = ln (Ideal.ofBits .f32 1157627904#32) (row (fun j => x (ix2 p j)) (fun j => c (ix2 p j)) (fun q j => w (ix2 q j))) (g (ix2 0 k)) (b (ix2 0 k)) k := by
  pointwise [k0_pay29, k0_pay26, k0_pay27, centred]
  rfl

end Cert.Proof.MixValue

end
-- ==== Proof.MixRef.lean ====
/-
  Hand-written, untrusted. The reference of the mixing call, read entry by entry.
-/
module

public import proofs.«01_k».proof.Defs
public import proofs.«01_k».proof.Proof.MixMath
public import proofs.«01_k».proof.Proof.Gen.RefMixIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.MixValue

open Cert.RefMixIdeal.Read

/-- The masked weights, entry by entry. -/
theorem v64_apply (x4 : FVec Ideal Cert.RefMixIdeal.S1x4x128x128 .f32) (g : Fin 4) (i j : Fin 128) :
    val_main_v64 (F := Ideal) x4 (ix3 g i j) = tri i j (x4 (ix4 0 g i j)) := by
  have hc : ∀ c : BitVec 1, Scalar.select c 1#1 0#1 = c := by decide
  pointwise [val_main_v64, val_main_call1_v2, val_main_call1_v1, val_main_call1_v0, val_main_c_12, val_main_v63, val_main_v62, val_main_call0_v5, val_main_call0_c_0, val_main_call0_v4, val_main_call0_v3, val_main_call0_v2, val_main_call0_v1, val_main_call0_c, val_main_call0_v0, val_main_v61, val_main_c, val_main_v34]
  rw [hc]
  unfold tri
  congr 1
  · congr 1
    exact BitVec.add_zero _
  · norm_num [FloatOps.sitofp]

variable (x0 : FVec Ideal Cert.RefMixIdeal.S2x4096x2048 .f32) (x1 : FVec Ideal Cert.RefMixIdeal.S2x4096x1024 .f32)
  (x2 : FVec Ideal Cert.RefMixIdeal.S2x4096x4608 .f32) (x3 : FVec Ideal Cert.RefMixIdeal.S2x256x1024 .f32)
  (x4 : FVec Ideal Cert.RefMixIdeal.S1x4x128x128 .f32) (x5 : FVec Ideal Cert.RefMixIdeal.S1x4x128 .f32)
  (x6 x7 : FVec Ideal Cert.RefMixIdeal.S1x512 .f32) (x8 : FVec Ideal Cert.RefMixIdeal.S1x2048x2048 .f32)
  (x9 x10 : FVec Ideal Cert.RefMixIdeal.S1x2048 .f32)

/-- The gelu of the first gating half, entry by entry. -/
theorem v18_apply (b : Fin 2) (s : Fin 4096) (k : Fin 512) :
    val_main_v18 (F := Ideal) x2 (ix3 b s k) = gelu (x2 (ix3 b s ⟨3072 + k.val, by omega⟩)) := by
  pointwise [val_main_v18, val_main_v17, val_main_v16, val_main_v15, val_main_v14, val_main_v13, val_main_v12, val_main_v11, val_main_v10, val_main_v9, val_main_v8, val_main_v7, val_main_v6, val_main_v3, val_main_cst, val_main_cst_0, val_main_cst_1, val_main_cst_2]
  unfold gelu
  rw [mul_comm (x2 _ * x2 _)]

/-- The gelu of the second gating half, entry by entry. -/
theorem v31_apply (b : Fin 2) (s : Fin 4096) (k : Fin 512) :
    val_main_v31 (F := Ideal) x2 (ix3 b s k) = gelu (x2 (ix3 b s ⟨3584 + k.val, by omega⟩)) := by
  pointwise [val_main_v31, val_main_v30, val_main_v29, val_main_v28, val_main_v27, val_main_v26, val_main_v25, val_main_v24, val_main_v23, val_main_v22, val_main_v21, val_main_v20, val_main_v19, val_main_v4, val_main_cst_3, val_main_cst_4, val_main_cst_5, val_main_cst_6]
  unfold gelu
  rw [mul_comm (x2 _ * x2 _)]

/-- The normed second half, entry by entry. -/
theorem v59_apply (b : Fin 2) (s : Fin 4096) (k : Fin 512) : val_main_v59 (F := Ideal) x2 x6 x7 (ix3 b s k)
    = ln (Ideal.ofBits .f32 1140850688#32) (fun c : Fin 512 => gelu (x2 (ix3 b s ⟨3584 + c.val, by omega⟩))) (x6 (ix2 0 k)) (x7 (ix2 0 k)) k := by
  unfold val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_cst_7 val_main_cst_8 val_main_cst_9 val_main_cst_10 val_main_cst_11 val_main_v32 val_main_v33
  pointwise
  simp only [v31_apply]
  rfl

/-- The gated values, entry by entry. -/
theorem v72_apply (b : Fin 2) (s : Fin 4096) (k : Fin 512) : val_main_v72 (F := Ideal) x2 x4 x5 x6 x7 (ix3 b s k)
    = gate (gelu (x2 (ix3 b s ⟨3072 + k.val, by omega⟩))) (fun j => x4 (ix4 0 ⟨k.val / 128, by omega⟩ ⟨s.val % 128, by omega⟩ j))
      (fun j => ln (Ideal.ofBits .f32 1140850688#32) (fun c : Fin 512 => gelu (x2 (ix3 b ⟨s.val / 128 * 128 + j.val, by omega⟩ ⟨3584 + c.val, by omega⟩)))
        (x6 (ix2 0 k)) (x7 (ix2 0 k)) k)
      (x5 (ix3 0 ⟨k.val / 128, by omega⟩ ⟨s.val % 128, by omega⟩)) ⟨s.val % 128, by omega⟩ := by
  unfold val_main_v72 val_main_v71 val_main_v70 val_main_v69 val_main_v68 val_main_v67 val_main_v66 val_main_v65 val_main_v60 val_main_v35
  pointwise
  simp only [v18_apply, v59_apply, v64_apply]
  unfold gate
  refine congrArg (_ * ·) (congrArg (· + _) (Finset.sum_congr rfl fun j _ => mul_comm _ _))

/-- The scores, entry by entry. -/
theorem v80_apply (b : Fin 2) (h : Fin 4) (s : Fin 4096) (k : Fin 256) : val_main_v80 (F := Ideal) x2 x3 (ix4 b h s k)
    = score (fun d => x2 (ix3 b s ⟨4096 + (h.val * 128 + d.val), by omega⟩)) (fun d => x3 (ix3 b k ⟨h.val * 128 + d.val, by omega⟩)) := by
  unfold val_main_v80 val_main_v79 val_main_v78 val_main_v76 val_main_v75 val_main_v73 val_main_v5 val_main_cst_13
  pointwise
  rfl

/-- The host's maximum over the last of four axes, entry by entry. -/
theorem hostMax_apply {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c)
      = (Finset.univ : Finset (Fin n3)).fold max (init (Shape.Idx.first hu)) (fun k => x (ix4 a b c k)) := by
  rw [Host.reduce_eq_fold, Shape.ReducesTo.fold_fiber_r4_a3]
  rfl

/-- The largest score, entry by entry. -/
theorem v81_apply (b : Fin 2) (h : Fin 4) (s : Fin 4096) : val_main_v81 (F := Ideal) x2 x3 (ix3 b h s)
    = top fun t => val_main_v80 (F := Ideal) x2 x3 (ix4 b h s t) := by
  unfold val_main_v81 top
  generalize val_main_v80 (F := Ideal) x2 x3 = y
  rw [hostMax_apply]
  unfold val_main_cst_14
  rfl

/-- The bounded largest score, entry by entry. -/
theorem v83_apply (b : Fin 2) (h : Fin 4) (s : Fin 4096) : val_main_v83 (F := Ideal) x2 x3 (ix3 b h s)
    = max (Ideal.ofBits .f32 4286578688#32) (top fun t => val_main_v80 (F := Ideal) x2 x3 (ix4 b h s t)) := by
  rw [val_main_v83_apply, val_main_v82_apply, val_main_cst_15_apply, v81_apply]
  generalize top _ = y
  rfl

/-- The softmax's weights before the division, entry by entry. -/
theorem v87_apply (b : Fin 2) (h : Fin 4) (s : Fin 4096) (t : Fin 256) : val_main_v87 (F := Ideal) x2 x3 (ix4 b h s t)
    = Ideal.exp (val_main_v80 (F := Ideal) x2 x3 (ix4 b h s t)
      - max (Ideal.ofBits .f32 4286578688#32) (top fun t => val_main_v80 (F := Ideal) x2 x3 (ix4 b h s t))) := by
  rw [← v83_apply]
  unfold val_main_v87 val_main_v86 val_main_v85 val_main_v84
  generalize val_main_v83 (F := Ideal) x2 x3 = z
  generalize val_main_v80 (F := Ideal) x2 x3 = y
  pointwise

/-- The softmax's weights, entry by entry. -/
theorem v91_apply (b : Fin 2) (h : Fin 4) (s : Fin 4096) (t : Fin 256) : val_main_v91 (F := Ideal) x2 x3 (ix4 b h s t)
    = Ideal.div (val_main_v87 (F := Ideal) x2 x3 (ix4 b h s t)) (∑ t, val_main_v87 (F := Ideal) x2 x3 (ix4 b h s t)) := by
  unfold val_main_v91 val_main_v90 val_main_v89 val_main_v88 val_main_cst_16
  generalize val_main_v87 (F := Ideal) x2 x3 = y
  pointwise

/-- The values of one head, entry by entry. -/
theorem v77_apply (b : Fin 2) (t : Fin 256) (h : Fin 4) (d : Fin 128) : val_main_v77 (F := Ideal) x3 (ix4 b t h d)
    = x3 (ix3 b t ⟨512 + (h.val * 128 + d.val), by omega⟩) := by
  unfold val_main_v77 val_main_v74
  pointwise

/-- The attention of one head, entry by entry. -/
theorem v92_apply (b : Fin 2) (h : Fin 4) (d : Fin 128) (s : Fin 4096) : val_main_v92 (F := Ideal) x2 x3 (ix4 b h d s)
    = ∑ t, val_main_v77 (F := Ideal) x3 (ix4 b t h d) * val_main_v91 (F := Ideal) x2 x3 (ix4 b h s t) := by
  unfold val_main_v92
  generalize val_main_v77 (F := Ideal) x3 = z
  generalize val_main_v91 (F := Ideal) x2 x3 = y
  pointwise

/-- The attention to the memory tokens at head `h` and column `d`. -/
theorem v93_apply (b : Fin 2) (s : Fin 4096) (h : Fin 4) (d : Fin 128) : val_main_v93 (F := Ideal) x2 x3 (ix4 b s h d)
    = attRef (fun t => score (fun d => x2 (ix3 b s ⟨4096 + (h.val * 128 + d.val), by omega⟩)) (fun d => x3 (ix3 b t ⟨h.val * 128 + d.val, by omega⟩)))
      (fun t => x3 (ix3 b t ⟨512 + (h.val * 128 + d.val), by omega⟩)) := by
  have h1 : val_main_v93 (F := Ideal) x2 x3 (ix4 b s h d) = val_main_v92 (F := Ideal) x2 x3 (ix4 b h d s) := by
    unfold val_main_v93
    generalize val_main_v92 (F := Ideal) x2 x3 = y
    pointwise
  rw [h1, v92_apply]
  simp only [v77_apply, v91_apply, v87_apply, v80_apply]
  unfold attRef
  rfl

/-- The attention to the memory tokens, entry by entry. -/
theorem v94_apply (b : Fin 2) (s : Fin 4096) (k : Fin 512) : val_main_v94 (F := Ideal) x2 x3 (ix3 b s k)
    = attRef (fun t => score (fun d => x2 (ix3 b s ⟨4096 + (k.val / 128 * 128 + d.val), by omega⟩)) (fun d => x3 (ix3 b t ⟨k.val / 128 * 128 + d.val, by omega⟩)))
      (fun t => x3 (ix3 b t ⟨512 + (k.val / 128 * 128 + k.val % 128), by omega⟩)) := by
  have h1 : val_main_v94 (F := Ideal) x2 x3 (ix3 b s k) = val_main_v93 (F := Ideal) x2 x3 (ix4 b s ⟨k.val / 128, by omega⟩ ⟨k.val % 128, by omega⟩) := by
    unfold val_main_v94
    generalize val_main_v93 (F := Ideal) x2 x3 = y
    pointwise
  rw [h1, v93_apply]

/-- The joined outputs, entry by entry. -/
theorem v95_apply (b : Fin 2) (s : Fin 4096) (k : Fin 2048) : val_main_v95 (F := Ideal) x1 x2 x3 x4 x5 x6 x7 (ix3 b s k)
    = cat (fun c => x1 (ix3 b s c)) (fun c => val_main_v72 (F := Ideal) x2 x4 x5 x6 x7 (ix3 b s c)) (fun c => val_main_v94 (F := Ideal) x2 x3 (ix3 b s c)) k := by
  unfold val_main_v95
  pointwise
  rfl

/-- The reference's first result, entry by entry. -/
theorem v127_apply (r : Fin 8192) (k : Fin 2048) : val_main_v127 (F := Ideal) x0 x1 x2 x3 x4 x5 x6 x7 x8 x9 x10 (ix2 r k)
    = ln (Ideal.ofBits .f32 1157627904#32) (row (fun j => x0 (ix3 ⟨r.val / 4096, by omega⟩ ⟨r.val % 4096, by omega⟩ j))
        (cat (fun c => x1 (ix3 ⟨r.val / 4096, by omega⟩ ⟨r.val % 4096, by omega⟩ c))
          (fun c => val_main_v72 (F := Ideal) x2 x4 x5 x6 x7 (ix3 ⟨r.val / 4096, by omega⟩ ⟨r.val % 4096, by omega⟩ c))
          (fun c => val_main_v94 (F := Ideal) x2 x3 (ix3 ⟨r.val / 4096, by omega⟩ ⟨r.val % 4096, by omega⟩ c)))
        (fun q j => x8 (ix3 0 q j))) (x9 (ix2 0 k)) (x10 (ix2 0 k)) k := by
  unfold val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_cst_17 val_main_cst_18 val_main_cst_19 val_main_cst_20 val_main_cst_21 val_main_cst_22
  pointwise
  simp only [v95_apply]
  rfl

end Cert.Proof.MixValue

end
-- ==== Proof.MixOut.lean ====
/-
  Hand-written, untrusted. The mixing row as one function of its inputs, and what the precondition says.
-/
module

public import proofs.«01_k».proof.Defs
public import proofs.«01_k».proof.Proof.MixMath
public import Idealize.ShloMosaic.Lib.Pipeline.ValueKit
public import Idealize.ShloMosaic.Lib.ReduceAll
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.MixValue

/-- The whole mixing row at column `k` from the row's inputs: residual `x`, attention output `o`, gating halves `u` and `v`
    (the latter over the row's chunk), spatial weights and bias, memory query, keys and values, output weights and norm. -/
def out (x : Fin 2048 → EReal) (o : Fin 1024 → EReal) (u : Fin 512 → EReal) (W : Fin 4 → Fin 128 → EReal) (v : Fin 128 → Fin 512 → EReal)
    (sg sb : Fin 512 → EReal) (s : Fin 4 → EReal) (i : Fin 128) (q : Fin 512 → EReal) (K X : Fin 4 → Fin 256 → Fin 128 → EReal)
    (w : Fin 2048 → Fin 2048 → EReal) (g b : EReal) (k : Fin 2048) : EReal :=
  ln (Ideal.ofBits .f32 1157627904#32) (row x (cat o
    (fun c => gate (gelu (u c)) (fun j => W ⟨c.val / 128, by omega⟩ j)
      (fun j => ln (Ideal.ofBits .f32 1140850688#32) (fun e : Fin 512 => gelu (v j e)) (sg c) (sb c) c) (s ⟨c.val / 128, by omega⟩) i)
    (fun c => att (fun t => score (fun d => q ⟨c.val / 128 * 128 + d.val, by omega⟩) (fun d => K ⟨c.val / 128, by omega⟩ t d))
      (fun t => X ⟨c.val / 128, by omega⟩ t ⟨c.val % 128, by omega⟩))) w) g b k

/-- Equal inputs give equal rows. -/
theorem out_congr {x x' : Fin 2048 → EReal} {o o' : Fin 1024 → EReal} {u u' : Fin 512 → EReal} {W W' : Fin 4 → Fin 128 → EReal} {v v' : Fin 128 → Fin 512 → EReal}
    {sg sg' sb sb' : Fin 512 → EReal} {s s' : Fin 4 → EReal} {i i' : Fin 128} {q q' : Fin 512 → EReal} {K K' X X' : Fin 4 → Fin 256 → Fin 128 → EReal}
    {w w' : Fin 2048 → Fin 2048 → EReal} {g g' b b' : EReal} {k k' : Fin 2048}
    (hx : ∀ j, x j = x' j) (ho : ∀ j, o j = o' j) (hu : ∀ j, u j = u' j) (hW : ∀ h j, W h j = W' h j) (hv : ∀ j e, v j e = v' j e)
    (hsg : ∀ j, sg j = sg' j) (hsb : ∀ j, sb j = sb' j) (hs : ∀ h, s h = s' h) (hi : i = i') (hq : ∀ j, q j = q' j)
    (hK : ∀ h t d, K h t d = K' h t d) (hX : ∀ h t d, X h t d = X' h t d) (hw : ∀ a c, w a c = w' a c) (hg : g = g') (hb : b = b') (hk : k = k') :
    out x o u W v sg sb s i q K X w g b k = out x' o' u' W' v' sg' sb' s' i' q' K' X' w' g' b' k' := by
  obtain rfl := funext hx; obtain rfl := funext ho; obtain rfl := funext hu; obtain rfl := funext fun h => funext (hW h)
  obtain rfl := funext fun j => funext (hv j); obtain rfl := funext hsg; obtain rfl := funext hsb; obtain rfl := funext hs; subst hi
  obtain rfl := funext hq; obtain rfl := funext fun h => funext fun t => funext (hK h t); obtain rfl := funext fun h => funext fun t => funext (hX h t)
  obtain rfl := funext fun a => funext (hw a); subst hg hb hk
  rfl

/-- A finite sum of real products is real, and so is a score of real vectors. -/
theorem score_real (q k : Fin 128 → EReal) (hq : ∀ d, ∃ r : ℝ, q d = r) (hk : ∀ d, ∃ r : ℝ, k d = r) : ∃ r : ℝ, score q k = r := by
  choose f hf using hq
  choose g hg using hk
  have h1 : ∀ S : Finset (Fin 128), ∃ r : ℝ, (∑ d ∈ S, q d * k d) = (r : EReal) := by
    intro S
    induction S using Finset.cons_induction with
    | empty => exact ⟨0, by simp⟩
    | cons a S ha ih =>
      obtain ⟨r, hr⟩ := ih
      exact ⟨f a * g a + r, by rw [Finset.sum_cons, hr, hf, hg, EReal.coe_add, EReal.coe_mul]⟩
  obtain ⟨r, hr⟩ := h1 Finset.univ
  have h2 : ∃ c : ℝ, Ideal.ofBits .f32 1035273459#32 = (c : EReal) := by
    simp only [Ideal.ofBits, Ideal.ieee]
    exact ⟨_, rfl⟩
  obtain ⟨c, hc⟩ := h2
  exact ⟨r * c, by unfold score; rw [hr, hc, EReal.coe_mul]⟩

/-- A number whose magnitude is below infinity is real. -/
theorem real_of_abs_lt (a : EReal) (h : max a (-a) < ⊤) : ∃ r : ℝ, a = r := by
  induction a with
  | bot => simp at h
  | coe r => exact ⟨r, rfl⟩
  | top => simp at h

/-- The word of plus infinity is the greatest extended real. -/
theorem top_word : Ideal.ofBits .f32 2139095040#32 = ⊤ := by
  simp [Ideal.ofBits, Ideal.ieee]

/-- The side conditions of the precondition's shapes. -/
instance preFacts : Cert.Pre_scores_finite.Facts := ⟨by decide, by decide, by decide, by decide, by decide, by decide, by decide⟩

/-- Where the precondition's comparison is one, the entry is real. -/
theorem real_of_cmp (a : EReal) (h : Ideal.cmp .olt (max a (-a)) ⊤ = 1#1) : ∃ r : ℝ, a = r := by
  apply real_of_abs_lt
  by_contra hn
  simp [Ideal.cmp, hn] at h

/-- The precondition says that the memory queries and keys are real. -/
theorem real_of_pre (a0 : FVec Ideal Cert.RefMixIdeal.S2x4096x2048 .f32) (a1 : FVec Ideal Cert.RefMixIdeal.S2x4096x1024 .f32)
    (a2 : FVec Ideal Cert.RefMixIdeal.S2x4096x4608 .f32) (a3 : FVec Ideal Cert.RefMixIdeal.S2x256x1024 .f32)
    (a4 : FVec Ideal Cert.RefMixIdeal.S1x4x128x128 .f32) (a5 : FVec Ideal Cert.RefMixIdeal.S1x4x128 .f32)
    (a6 a7 : FVec Ideal Cert.RefMixIdeal.S1x512 .f32) (a8 : FVec Ideal Cert.RefMixIdeal.S1x2048x2048 .f32)
    (a9 a10 : FVec Ideal Cert.RefMixIdeal.S1x2048 .f32)
    [Cert.Pre_scores_finite.Facts]
    (h : Cert.Pre_scores_finite.fn (F := Ideal) a0 a1 a2 a3 a4 a5 a6 a7 a8 a9 a10 = fun _ => 1#1) :
    (∀ (b : Fin 2) (s : Fin 4096) (k : Fin 512), ∃ r : ℝ, a2 (ix3 b s ⟨4096 + k.val, by omega⟩) = r)
    ∧ ∀ (b : Fin 2) (t : Fin 256) (k : Fin 512), ∃ r : ℝ, a3 (ix3 b t ⟨k.val, by omega⟩) = r := by
  haveI : Subsingleton Cert.Pre_scores_finite.S_.Idx := ⟨fun a b => funext fun i => i.elim0⟩
  have h0 := congrFun h (fun i : Fin 0 => i.elim0)
  unfold Cert.Pre_scores_finite.fn at h0
  have h1 : ∀ a b : BitVec 1, a &&& b = 1#1 → a = 1#1 ∧ b = 1#1 := by decide
  obtain ⟨hA, hB⟩ := h1 _ _ h0
  constructor
  · intro b s k
    have h2 := Host.reduce_andi_all _ _ _ _ _ hA (ix3 b s k)
    have e : extractStridedSlice Cert.Pre_scores_finite.S2x4096x512 ![0, 0, 4096] a2
        Cert.Pre_scores_finite.Facts.slices_S2x4096x4608_S2x4096x512_0_0_4096 (ix3 b s k) = a2 (ix3 b s ⟨4096 + k.val, by omega⟩) := by
      refine congrArg a2 (funext fun j => ?_)
      fin_cases j <;> apply Fin.ext <;> simp [ix3]
    rw [← e]
    refine real_of_cmp _ (Eq.trans ?_ h2)
    rw [← top_word]
    rfl
  · intro b t k
    have h2 := Host.reduce_andi_all _ _ _ _ _ hB (ix3 b t k)
    have e : extractStridedSlice Cert.Pre_scores_finite.S2x256x512 ![0, 0, 0] a3
        Cert.Pre_scores_finite.Facts.slices_S2x256x1024_S2x256x512_0_0_0 (ix3 b t k) = a3 (ix3 b t ⟨k.val, by omega⟩) := by
      refine congrArg a3 (funext fun j => ?_)
      fin_cases j <;> apply Fin.ext <;> simp [ix3]
    rw [← e]
    refine real_of_cmp _ (Eq.trans ?_ h2)
    rw [← top_word]
    rfl

end Cert.Proof.MixValue

end
-- ==== Proof.MixTie.lean ====
/-
  Hand-written, untrusted. The mixing row from the kernel and from the reference.
-/
module

public import proofs.«01_k».proof.Defs
public import proofs.«01_k».proof.Proof.MixKer
public import proofs.«01_k».proof.Proof.MixRef
public import proofs.«01_k».proof.Proof.MixOut
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.MixValue

open Cert.MixIdeal Cert.MixIdeal.Gen

/-- One row part's stored value, entry by entry. -/
theorem part_apply (w0 w1 w2 w3 : Vec Ideal S1x128x128 .f32) (s : Vec Ideal S128x4 .f32) (u v : Vec Ideal S256x512 .f32) (sg sb : Vec Ideal S1x512 .f32)
    (q : Vec Ideal S256x512 .f32) (k0 v0 k1 v1 k2 v2 k3 v3 : Vec Ideal S1x256x128 .bf16)
    (o : Vec Ideal S256x1024 .f32) (w : Vec Ideal S2048x2048 .bf16) (x : Vec Ideal S256x2048 .f32) (g b : Vec Ideal S1x2048 .f32) (p : Fin 256) (k : Fin 2048) :
    body (spat (k0_pay3 w0) (k0_pay4 w1) (k0_pay5 w2) (k0_pay6 w3) (k0_pay7 s) (gel u) (nrm v sg sb)) q k0 v0 k1 v1 k2 v2 k3 v3 o w x g b (ix2 p k)
    = out (fun j => x (ix2 p j)) (fun j => o (ix2 p j)) (fun j => u (ix2 p j))
        (fun h j => (![w0, w1, w2, w3] : Fin 4 → Vec Ideal S1x128x128 .f32) h (ix3 0 ⟨p.val % 128, by omega⟩ j))
        (fun j e => v (ix2 ⟨p.val / 128 * 128 + j.val, by omega⟩ e)) (fun j => sg (ix2 0 j)) (fun j => sb (ix2 0 j))
        (fun h => s (ix2 ⟨p.val % 128, by omega⟩ h)) ⟨p.val % 128, by omega⟩ (fun j => q (ix2 p j))
        (fun h t d => (![k0, k1, k2, k3] : Fin 4 → Vec Ideal S1x256x128 .bf16) h (ix3 0 t d))
        (fun h t d => (![v0, v1, v2, v3] : Fin 4 → Vec Ideal S1x256x128 .bf16) h (ix3 0 t d))
        (fun a c => w (ix2 a c)) (g (ix2 0 k)) (b (ix2 0 k)) k := by
  rw [body_eq, norm_apply]
  simp only [catv_heads]
  unfold out
  have hs : ∀ c : Fin 512, spat (k0_pay3 w0) (k0_pay4 w1) (k0_pay5 w2) (k0_pay6 w3) (k0_pay7 s) (gel u) (nrm v sg sb) (ix2 p c)
      = gate (gelu (u (ix2 p c))) (fun j => (![w0, w1, w2, w3] : Fin 4 → Vec Ideal S1x128x128 .f32) ⟨c.val / 128, by omega⟩ (ix3 0 ⟨p.val % 128, by omega⟩ j))
        (fun j => ln (Ideal.ofBits .f32 1140850688#32) (fun e : Fin 512 => gelu (v (ix2 ⟨p.val / 128 * 128 + j.val, by omega⟩ e))) (sg (ix2 0 c)) (sb (ix2 0 c)) c)
        (s (ix2 ⟨p.val % 128, by omega⟩ ⟨c.val / 128, by omega⟩)) ⟨p.val % 128, by omega⟩ := by
    intro c
    have hw : ∀ (h : Fin 4) (i j : Fin 128), (![k0_pay3 w0, k0_pay4 w1, k0_pay5 w2, k0_pay6 w3] : Fin 4 → FVec Ideal S128x128 .bf16) h (ix2 i j)
        = tri i j ((![w0, w1, w2, w3] : Fin 4 → Vec Ideal S1x128x128 .f32) h (ix3 0 i j)) := by
      intro h i j
      rw [pay4_eq, pay5_eq, pay6_eq]
      fin_cases h <;> exact pay3_apply _ _ _
    rw [spat_apply, gel_apply, pay7_apply]
    simp only [hw, nrm_apply]
    rfl
  simp only [hs]

variable (x0 : FVec Ideal Cert.RefMixIdeal.S2x4096x2048 .f32) (x1 : FVec Ideal Cert.RefMixIdeal.S2x4096x1024 .f32)
  (x2 : FVec Ideal Cert.RefMixIdeal.S2x4096x4608 .f32) (x3 : FVec Ideal Cert.RefMixIdeal.S2x256x1024 .f32)
  (x4 : FVec Ideal Cert.RefMixIdeal.S1x4x128x128 .f32) (x5 : FVec Ideal Cert.RefMixIdeal.S1x4x128 .f32)
  (x6 x7 : FVec Ideal Cert.RefMixIdeal.S1x512 .f32) (x8 : FVec Ideal Cert.RefMixIdeal.S1x2048x2048 .f32)
  (x9 x10 : FVec Ideal Cert.RefMixIdeal.S1x2048 .f32)

/-- The reference's row, from its inputs, where the memory queries and keys are real. -/
theorem ref_out (hq : ∀ (b : Fin 2) (s : Fin 4096) (k : Fin 512), ∃ r : ℝ, x2 (ix3 b s ⟨4096 + k.val, by omega⟩) = r)
    (hk : ∀ (b : Fin 2) (t : Fin 256) (k : Fin 512), ∃ r : ℝ, x3 (ix3 b t ⟨k.val, by omega⟩) = r) (r : Fin 8192) (k : Fin 2048) :
    Cert.RefMixIdeal.Read.val_main_v127 (F := Ideal) x0 x1 x2 x3 x4 x5 x6 x7 x8 x9 x10 (ix2 r k)
    = out (fun j => x0 (ix3 ⟨r.val / 4096, by omega⟩ ⟨r.val % 4096, by omega⟩ j)) (fun j => x1 (ix3 ⟨r.val / 4096, by omega⟩ ⟨r.val % 4096, by omega⟩ j))
        (fun j => x2 (ix3 ⟨r.val / 4096, by omega⟩ ⟨r.val % 4096, by omega⟩ ⟨3072 + j.val, by omega⟩))
        (fun h j => x4 (ix4 0 h ⟨r.val % 4096 % 128, by omega⟩ j))
        (fun j e => x2 (ix3 ⟨r.val / 4096, by omega⟩ ⟨r.val % 4096 / 128 * 128 + j.val, by omega⟩ ⟨3584 + e.val, by omega⟩))
        (fun j => x6 (ix2 0 j)) (fun j => x7 (ix2 0 j)) (fun h => x5 (ix3 0 h ⟨r.val % 4096 % 128, by omega⟩)) ⟨r.val % 4096 % 128, by omega⟩
        (fun j => x2 (ix3 ⟨r.val / 4096, by omega⟩ ⟨r.val % 4096, by omega⟩ ⟨4096 + j.val, by omega⟩))
        (fun h t d => x3 (ix3 ⟨r.val / 4096, by omega⟩ t ⟨h.val * 128 + d.val, by omega⟩))
        (fun h t d => x3 (ix3 ⟨r.val / 4096, by omega⟩ t ⟨512 + (h.val * 128 + d.val), by omega⟩))
        (fun a c => x8 (ix3 0 a c)) (x9 (ix2 0 k)) (x10 (ix2 0 k)) k := by
  rw [v127_apply]
  unfold out
  simp only [v72_apply, v94_apply]
  have ha : ∀ (b : Fin 2) (s : Fin 4096) (c : Fin 512), attRef (fun t => score (fun d => x2 (ix3 b s ⟨4096 + (c.val / 128 * 128 + d.val), by omega⟩)) (fun d => x3 (ix3 b t ⟨c.val / 128 * 128 + d.val, by omega⟩)))
      (fun t => x3 (ix3 b t ⟨512 + (c.val / 128 * 128 + c.val % 128), by omega⟩))
      = att (fun t => score (fun d => x2 (ix3 b s ⟨4096 + (c.val / 128 * 128 + d.val), by omega⟩)) (fun d => x3 (ix3 b t ⟨c.val / 128 * 128 + d.val, by omega⟩)))
      (fun t => x3 (ix3 b t ⟨512 + (c.val / 128 * 128 + c.val % 128), by omega⟩)) := fun b s c =>
    att_eq _ _ fun t => score_real _ _ (fun d => hq b s ⟨c.val / 128 * 128 + d.val, by omega⟩) (fun d => hk b t ⟨c.val / 128 * 128 + d.val, by omega⟩)
  simp only [ha]

end Cert.Proof.MixValue

end
-- ==== Proof.Mix.lean ====
/-
  Hand-written, untrusted. The value of `MixIdeal`: the mixing call, block by block.
-/
module

public import proofs.«01_k».proof.Defs
public import proofs.«01_k».proof.Proof.Gen.MixIdeal.Frame
public import proofs.«01_k».proof.Proof.Gen.RefMixIdeal.Read
public import proofs.«01_k».proof.Proof.MixTie
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.MixValue

open Cert.MixIdeal Cert.MixIdeal.Gen

variable (m : (ℓ : Loc nD τ sig) → Buf (Elt Ideal) ℓ)

/-- Every window's block index at every point. -/
theorem idx : ∀ t : Fin cfg0.N, win0_0.index t = ![t.val, 0] ∧ win0_1.index t = ![t.val, 0] ∧ win0_2.index t = ![t.val, 6]
    ∧ win0_3.index t = ![t.val, 7] ∧ win0_4.index t = ![t.val, 8] ∧ win0_5.index t = ![t.val / 8, 0, 0] ∧ win0_6.index t = ![0, 0, 0]
    ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![t.val, 0] ∧ win0_14.index t = ![t.val, 0] :=
  (by decide +kernel : ∀ t : Fin grid0.N, win0_0.index t = ![t.val, 0] ∧ win0_1.index t = ![t.val, 0] ∧ win0_2.index t = ![t.val, 6]
    ∧ win0_3.index t = ![t.val, 7] ∧ win0_4.index t = ![t.val, 8] ∧ win0_5.index t = ![t.val / 8, 0, 0] ∧ win0_6.index t = ![0, 0, 0]
    ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![t.val, 0] ∧ win0_14.index t = ![t.val, 0])

/-- The residual rows the launch hands the kernel, read at an index. -/
theorem x_read (c : Dev nD) (i : S8192x2048.Idx) : V m c main_v0 i = m ((c : Thread nD τ).loc main_arg0) (ix3 ⟨(i 0).val / 4096, by have : (i 0).val < 8192 := (i 0).isLt; omega⟩ ⟨(i 0).val % 4096, by omega⟩ (i 1)) := by
  entry_read
  pointwise

/-- The attention rows the launch hands the kernel, read at an index. -/
theorem o_read (c : Dev nD) (i : S8192x1024.Idx) : V m c main_v1 i = m ((c : Thread nD τ).loc main_arg1) (ix3 ⟨(i 0).val / 4096, by have : (i 0).val < 8192 := (i 0).isLt; omega⟩ ⟨(i 0).val % 4096, by omega⟩ (i 1)) := by
  entry_read
  pointwise

/-- The projected rows the launch hands the kernel, read at an index. -/
theorem p_read (c : Dev nD) (i : S8192x4608.Idx) : V m c main_v2 i = m ((c : Thread nD τ).loc main_arg2) (ix3 ⟨(i 0).val / 4096, by have : (i 0).val < 8192 := (i 0).isLt; omega⟩ ⟨(i 0).val % 4096, by omega⟩ (i 1)) := by
  entry_read
  pointwise

/-- The memory's keys and values the launch hands the kernel, read at an index. -/
theorem kv_read (c : Dev nD) (i : S2x256x1024.Idx) : V m c main_v3 i = m ((c : Thread nD τ).loc main_arg3) i := by
  entry_read
  pointwise

/-- The spatial weights the launch hands the kernel, read at an index. -/
theorem sw_read (c : Dev nD) (i : S4x128x128.Idx) : V m c main_v4 i = m ((c : Thread nD τ).loc main_arg4) (ix4 0 (i 0) (i 1) (i 2)) := by
  entry_read
  pointwise

/-- The spatial biases the launch hands the kernel, read at an index. -/
theorem sb_read (c : Dev nD) (i : S128x4.Idx) : V m c main_v6 i = m ((c : Thread nD τ).loc main_arg5) (ix3 0 (i 1) (i 0)) := by
  entry_read
  pointwise

/-- The inner norm's gain the launch hands the kernel, read at an index. -/
theorem sg_read (c : Dev nD) (i : S1x512.Idx) : V m c main_v8 i = m ((c : Thread nD τ).loc main_arg6) (ix2 0 (i 1)) := by
  entry_read
  pointwise

/-- The inner norm's shift the launch hands the kernel, read at an index. -/
theorem sh_read (c : Dev nD) (i : S1x512.Idx) : V m c main_v10 i = m ((c : Thread nD τ).loc main_arg7) (ix2 0 (i 1)) := by
  entry_read
  pointwise

/-- The output weights the launch hands the kernel, read at an index. -/
theorem w_read (c : Dev nD) (i : S2048x2048.Idx) : V m c main_v12 i = m ((c : Thread nD τ).loc main_arg8) (ix3 0 (i 0) (i 1)) := by
  entry_read
  pointwise

/-- The gain the launch hands the kernel, read at an index. -/
theorem g_read (c : Dev nD) (i : S1x2048.Idx) : V m c main_v14 i = m ((c : Thread nD τ).loc main_arg9) (ix2 0 (i 1)) := by
  entry_read
  pointwise

/-- The shift the launch hands the kernel, read at an index. -/
theorem b_read (c : Dev nD) (i : S1x2048.Idx) : V m c main_v16 i = m ((c : Thread nD τ).loc main_arg10) (ix2 0 (i 1)) := by
  entry_read
  pointwise

/-- The reference's result over the kernel's argument arrays. -/
abbrev REF (c : Dev nD) : FVec Ideal S8192x2048 .f32 :=
  Cert.RefMixIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The memory queries and keys are real. -/
def Real (x2 : FVec Ideal S2x4096x4608 .f32) (x3 : FVec Ideal S2x256x1024 .f32) : Prop :=
  (∀ (b : Fin 2) (s : Fin 4096) (k : Fin 512), ∃ r : ℝ, x2 (ix3 b s ⟨4096 + k.val, by omega⟩) = r)
    ∧ ∀ (b : Fin 2) (t : Fin 256) (k : Fin 512), ∃ r : ℝ, x3 (ix3 b t ⟨k.val, by omega⟩) = r

/-- A block of operand 0, read at an index. -/
theorem blk0 (c : Dev nD) (t : Fin cfg0.N) (i : S512x2048.Idx) : iblk m c 0 t i = m ((c : Thread nD τ).loc main_arg0) (ix3 ⟨(t.val * 512 + (i 0).val) / 4096, by have : t.val < 16 := t.isLt; have : (i 0).val < 512 := (i 0).isLt; omega⟩ ⟨(t.val * 512 + (i 0).val) % 4096, by omega⟩ (i 1)) := by
  have ht : t.val < 16 := t.isLt
  have hi0 := (i 0).isLt
  blk_simp [iblk]
  refine (x_read m c _).trans ?_
  blk_ext [idx t]

/-- A block of operand 1, read at an index. -/
theorem blk1 (c : Dev nD) (t : Fin cfg0.N) (i : S512x1024.Idx) : iblk m c 1 t i = m ((c : Thread nD τ).loc main_arg1) (ix3 ⟨(t.val * 512 + (i 0).val) / 4096, by have : t.val < 16 := t.isLt; have : (i 0).val < 512 := (i 0).isLt; omega⟩ ⟨(t.val * 512 + (i 0).val) % 4096, by omega⟩ (i 1)) := by
  have ht : t.val < 16 := t.isLt
  have hi0 := (i 0).isLt
  blk_simp [iblk]
  refine (o_read m c _).trans ?_
  blk_ext [idx t]

/-- A block of operand 2, read at an index. -/
theorem blk2 (c : Dev nD) (t : Fin cfg0.N) (i : S512x512.Idx) : iblk m c 2 t i = m ((c : Thread nD τ).loc main_arg2) (ix3 ⟨(t.val * 512 + (i 0).val) / 4096, by have : t.val < 16 := t.isLt; have : (i 0).val < 512 := (i 0).isLt; omega⟩ ⟨(t.val * 512 + (i 0).val) % 4096, by omega⟩ ⟨3072 + (i 1).val, by have : (i 1).val < 512 := (i 1).isLt; omega⟩) := by
  have ht : t.val < 16 := t.isLt
  have hi0 := (i 0).isLt
  blk_simp [iblk]
  refine (p_read m c _).trans ?_
  blk_ext [idx t]

/-- A block of operand 3, read at an index. -/
theorem blk3 (c : Dev nD) (t : Fin cfg0.N) (i : S512x512.Idx) : iblk m c 3 t i = m ((c : Thread nD τ).loc main_arg2) (ix3 ⟨(t.val * 512 + (i 0).val) / 4096, by have : t.val < 16 := t.isLt; have : (i 0).val < 512 := (i 0).isLt; omega⟩ ⟨(t.val * 512 + (i 0).val) % 4096, by omega⟩ ⟨3584 + (i 1).val, by have : (i 1).val < 512 := (i 1).isLt; omega⟩) := by
  have ht : t.val < 16 := t.isLt
  have hi0 := (i 0).isLt
  blk_simp [iblk]
  refine (p_read m c _).trans ?_
  blk_ext [idx t]

/-- A block of operand 4, read at an index. -/
theorem blk4 (c : Dev nD) (t : Fin cfg0.N) (i : S512x512.Idx) : iblk m c 4 t i = m ((c : Thread nD τ).loc main_arg2) (ix3 ⟨(t.val * 512 + (i 0).val) / 4096, by have : t.val < 16 := t.isLt; have : (i 0).val < 512 := (i 0).isLt; omega⟩ ⟨(t.val * 512 + (i 0).val) % 4096, by omega⟩ ⟨4096 + (i 1).val, by have : (i 1).val < 512 := (i 1).isLt; omega⟩) := by
  have ht : t.val < 16 := t.isLt
  have hi0 := (i 0).isLt
  blk_simp [iblk]
  refine (p_read m c _).trans ?_
  blk_ext [idx t]

/-- A block of operand 5, read at an index. -/
theorem blk5 (c : Dev nD) (t : Fin cfg0.N) (i : S1x256x1024.Idx) : iblk m c 5 t i = m ((c : Thread nD τ).loc main_arg3) (ix3 ⟨t.val / 8, by have : t.val < 16 := t.isLt; omega⟩ (i 1) (i 2)) := by
  have ht : t.val < 16 := t.isLt
  have hi0 := (i 0).isLt
  blk_simp [iblk]
  refine (kv_read m c _).trans ?_
  blk_ext [idx t]

/-- A block of operand 6, read at an index. -/
theorem blk6 (c : Dev nD) (t : Fin cfg0.N) (i : S4x128x128.Idx) : iblk m c 6 t i = m ((c : Thread nD τ).loc main_arg4) (ix4 0 (i 0) (i 1) (i 2)) := by
  have ht : t.val < 16 := t.isLt
  have hi0 := (i 0).isLt
  blk_simp [iblk]
  refine (sw_read m c _).trans ?_
  blk_ext [idx t]

/-- A block of operand 7, read at an index. -/
theorem blk7 (c : Dev nD) (t : Fin cfg0.N) (i : S128x4.Idx) : iblk m c 7 t i = m ((c : Thread nD τ).loc main_arg5) (ix3 0 (i 1) (i 0)) := by
  have ht : t.val < 16 := t.isLt
  have hi0 := (i 0).isLt
  blk_simp [iblk]
  refine (sb_read m c _).trans ?_
  blk_ext [idx t]

/-- A block of operand 8, read at an index. -/
theorem blk8 (c : Dev nD) (t : Fin cfg0.N) (i : S1x512.Idx) : iblk m c 8 t i = m ((c : Thread nD τ).loc main_arg6) (ix2 0 (i 1)) := by
  have ht : t.val < 16 := t.isLt
  have hi0 := (i 0).isLt
  blk_simp [iblk]
  refine (sg_read m c _).trans ?_
  blk_ext [idx t]

/-- A block of operand 9, read at an index. -/
theorem blk9 (c : Dev nD) (t : Fin cfg0.N) (i : S1x512.Idx) : iblk m c 9 t i = m ((c : Thread nD τ).loc main_arg7) (ix2 0 (i 1)) := by
  have ht : t.val < 16 := t.isLt
  have hi0 := (i 0).isLt
  blk_simp [iblk]
  refine (sh_read m c _).trans ?_
  blk_ext [idx t]

/-- A block of operand 10, read at an index. -/
theorem blk10 (c : Dev nD) (t : Fin cfg0.N) (i : S2048x2048.Idx) : iblk m c 10 t i = m ((c : Thread nD τ).loc main_arg8) (ix3 0 (i 0) (i 1)) := by
  have ht : t.val < 16 := t.isLt
  have hi0 := (i 0).isLt
  blk_simp [iblk]
  refine (w_read m c _).trans ?_
  blk_ext [idx t]

/-- A block of operand 11, read at an index. -/
theorem blk11 (c : Dev nD) (t : Fin cfg0.N) (i : S1x2048.Idx) : iblk m c 11 t i = m ((c : Thread nD τ).loc main_arg9) (ix2 0 (i 1)) := by
  have ht : t.val < 16 := t.isLt
  have hi0 := (i 0).isLt
  blk_simp [iblk]
  refine (g_read m c _).trans ?_
  blk_ext [idx t]

/-- A block of operand 12, read at an index. -/
theorem blk12 (c : Dev nD) (t : Fin cfg0.N) (i : S1x2048.Idx) : iblk m c 12 t i = m ((c : Thread nD τ).loc main_arg10) (ix2 0 (i 1)) := by
  have ht : t.val < 16 := t.isLt
  have hi0 := (i 0).isLt
  blk_simp [iblk]
  refine (b_read m c _).trans ?_
  blk_ext [idx t]

/-- The second row part's stored value is the row function. -/
theorem second_eq (x0 : Vec Ideal S512x2048 .f32) (x1 : Vec Ideal S512x1024 .f32) (x2 x3 x4 : Vec Ideal S512x512 .f32) (x5 : Vec Ideal S1x256x1024 .bf16) (x6 : Vec Ideal S4x128x128 .f32)
    (x7 : Vec Ideal S128x4 .f32) (x8 x9 : Vec Ideal S1x512 .f32) (x10 : Vec Ideal S2048x2048 .bf16) (x11 x12 : Vec Ideal S1x2048 .f32) : k0_pay65 (F := Ideal) x0 x1 x2 x3 x4 x5 x6 x7 x8 x9 x10 x11 x12 = body (spat (k0_pay3 (View.ld x6 r0_0)) (k0_pay4 (View.ld x6 r0_1)) (k0_pay5 (View.ld x6 r0_2)) (k0_pay6 (View.ld x6 r0_3)) (k0_pay7 (View.ld x7 r0_4))
      (gel (View.ld x2 r0_19)) (nrm (View.ld x3 r0_19) (View.ld x8 r0_6) (View.ld x9 r0_6))) (View.ld x4 r0_19) (View.ld x5 r0_7) (View.ld x5 r0_8) (View.ld x5 r0_9) (View.ld x5 r0_10)
      (View.ld x5 r0_11) (View.ld x5 r0_12) (View.ld x5 r0_13) (View.ld x5 r0_14) (View.ld x1 r0_20) (View.ld x10 r0_16) (View.ld x0 r0_21) (View.ld x11 r0_18) (View.ld x12 r0_18) := rfl

/-- The first row part's stored value is the row function. -/
theorem first_eq (x0 : Vec Ideal S512x2048 .f32) (x1 : Vec Ideal S512x1024 .f32) (x2 x3 x4 : Vec Ideal S512x512 .f32) (x5 : Vec Ideal S1x256x1024 .bf16) (x6 : Vec Ideal S4x128x128 .f32)
    (x7 : Vec Ideal S128x4 .f32) (x8 x9 : Vec Ideal S1x512 .f32) (x10 : Vec Ideal S2048x2048 .bf16) (x11 x12 : Vec Ideal S1x2048 .f32) : k0_pay29 (k0_pay58 x0 x1 x2 x3 x4 x5 x6 x7 x8 x9 x10 x11 x12) (k0_pay59 x0 x1 x2 x3 x4 x5 x6 x7 x8 x9 x10 x11 x12) (k0_pay60 (F := Ideal) x0 x1 x2 x3 x4 x5 x6 x7 x8 x9 x10 x11 x12) = body (spat (k0_pay3 (View.ld x6 r0_0)) (k0_pay4 (View.ld x6 r0_1)) (k0_pay5 (View.ld x6 r0_2)) (k0_pay6 (View.ld x6 r0_3)) (k0_pay7 (View.ld x7 r0_4))
      (gel (View.ld x2 r0_5)) (nrm (View.ld x3 r0_5) (View.ld x8 r0_6) (View.ld x9 r0_6))) (View.ld x4 r0_5) (View.ld x5 r0_7) (View.ld x5 r0_8) (View.ld x5 r0_9) (View.ld x5 r0_10)
      (View.ld x5 r0_11) (View.ld x5 r0_12) (View.ld x5 r0_13) (View.ld x5 r0_14) (View.ld x1 r0_15) (View.ld x10 r0_16) (View.ld x0 r0_17) (View.ld x11 r0_18) (View.ld x12 r0_18) := rfl

/-- Where each load's rectangle puts an index. -/
theorem at0 (i : S1x128x128.Idx) : (r0_0.idx i 0).val = 0 + (i 0).val ∧ (r0_0.idx i 1).val = 0 + (i 1).val ∧ (r0_0.idx i 2).val = 0 + (i 2).val := ⟨Rect.idx_unit_val _ _ _ _ _, Rect.idx_unit_val _ _ _ _ _, Rect.idx_unit_val _ _ _ _ _⟩
theorem at1 (i : S1x128x128.Idx) : (r0_1.idx i 0).val = 1 + (i 0).val ∧ (r0_1.idx i 1).val = 0 + (i 1).val ∧ (r0_1.idx i 2).val = 0 + (i 2).val := ⟨Rect.idx_unit_val _ _ _ _ _, Rect.idx_unit_val _ _ _ _ _, Rect.idx_unit_val _ _ _ _ _⟩
theorem at2 (i : S1x128x128.Idx) : (r0_2.idx i 0).val = 2 + (i 0).val ∧ (r0_2.idx i 1).val = 0 + (i 1).val ∧ (r0_2.idx i 2).val = 0 + (i 2).val := ⟨Rect.idx_unit_val _ _ _ _ _, Rect.idx_unit_val _ _ _ _ _, Rect.idx_unit_val _ _ _ _ _⟩
theorem at3 (i : S1x128x128.Idx) : (r0_3.idx i 0).val = 3 + (i 0).val ∧ (r0_3.idx i 1).val = 0 + (i 1).val ∧ (r0_3.idx i 2).val = 0 + (i 2).val := ⟨Rect.idx_unit_val _ _ _ _ _, Rect.idx_unit_val _ _ _ _ _, Rect.idx_unit_val _ _ _ _ _⟩
theorem at4 (i : S128x4.Idx) : (r0_4.idx i 0).val = 0 + (i 0).val ∧ (r0_4.idx i 1).val = 0 + (i 1).val := ⟨Rect.idx_unit_val _ _ _ _ _, Rect.idx_unit_val _ _ _ _ _⟩
theorem at5 (i : S256x512.Idx) : (r0_5.idx i 0).val = 0 + (i 0).val ∧ (r0_5.idx i 1).val = 0 + (i 1).val := ⟨Rect.idx_unit_val _ _ _ _ _, Rect.idx_unit_val _ _ _ _ _⟩
theorem at6 (i : S1x512.Idx) : (r0_6.idx i 0).val = 0 + (i 0).val ∧ (r0_6.idx i 1).val = 0 + (i 1).val := ⟨Rect.idx_unit_val _ _ _ _ _, Rect.idx_unit_val _ _ _ _ _⟩
theorem at7 (i : S1x256x128.Idx) : (r0_7.idx i 0).val = 0 + (i 0).val ∧ (r0_7.idx i 1).val = 0 + (i 1).val ∧ (r0_7.idx i 2).val = 0 + (i 2).val := ⟨Rect.idx_unit_val _ _ _ _ _, Rect.idx_unit_val _ _ _ _ _, Rect.idx_unit_val _ _ _ _ _⟩
theorem at8 (i : S1x256x128.Idx) : (r0_8.idx i 0).val = 0 + (i 0).val ∧ (r0_8.idx i 1).val = 0 + (i 1).val ∧ (r0_8.idx i 2).val = 512 + (i 2).val := ⟨Rect.idx_unit_val _ _ _ _ _, Rect.idx_unit_val _ _ _ _ _, Rect.idx_unit_val _ _ _ _ _⟩
theorem at9 (i : S1x256x128.Idx) : (r0_9.idx i 0).val = 0 + (i 0).val ∧ (r0_9.idx i 1).val = 0 + (i 1).val ∧ (r0_9.idx i 2).val = 128 + (i 2).val := ⟨Rect.idx_unit_val _ _ _ _ _, Rect.idx_unit_val _ _ _ _ _, Rect.idx_unit_val _ _ _ _ _⟩
theorem at10 (i : S1x256x128.Idx) : (r0_10.idx i 0).val = 0 + (i 0).val ∧ (r0_10.idx i 1).val = 0 + (i 1).val ∧ (r0_10.idx i 2).val = 640 + (i 2).val := ⟨Rect.idx_unit_val _ _ _ _ _, Rect.idx_unit_val _ _ _ _ _, Rect.idx_unit_val _ _ _ _ _⟩
theorem at11 (i : S1x256x128.Idx) : (r0_11.idx i 0).val = 0 + (i 0).val ∧ (r0_11.idx i 1).val = 0 + (i 1).val ∧ (r0_11.idx i 2).val = 256 + (i 2).val := ⟨Rect.idx_unit_val _ _ _ _ _, Rect.idx_unit_val _ _ _ _ _, Rect.idx_unit_val _ _ _ _ _⟩
theorem at12 (i : S1x256x128.Idx) : (r0_12.idx i 0).val = 0 + (i 0).val ∧ (r0_12.idx i 1).val = 0 + (i 1).val ∧ (r0_12.idx i 2).val = 768 + (i 2).val := ⟨Rect.idx_unit_val _ _ _ _ _, Rect.idx_unit_val _ _ _ _ _, Rect.idx_unit_val _ _ _ _ _⟩
theorem at13 (i : S1x256x128.Idx) : (r0_13.idx i 0).val = 0 + (i 0).val ∧ (r0_13.idx i 1).val = 0 + (i 1).val ∧ (r0_13.idx i 2).val = 384 + (i 2).val := ⟨Rect.idx_unit_val _ _ _ _ _, Rect.idx_unit_val _ _ _ _ _, Rect.idx_unit_val _ _ _ _ _⟩
theorem at14 (i : S1x256x128.Idx) : (r0_14.idx i 0).val = 0 + (i 0).val ∧ (r0_14.idx i 1).val = 0 + (i 1).val ∧ (r0_14.idx i 2).val = 896 + (i 2).val := ⟨Rect.idx_unit_val _ _ _ _ _, Rect.idx_unit_val _ _ _ _ _, Rect.idx_unit_val _ _ _ _ _⟩
theorem at15 (i : S256x1024.Idx) : (r0_15.idx i 0).val = 0 + (i 0).val ∧ (r0_15.idx i 1).val = 0 + (i 1).val := ⟨Rect.idx_unit_val _ _ _ _ _, Rect.idx_unit_val _ _ _ _ _⟩
theorem at16 (i : S2048x2048.Idx) : (r0_16.idx i 0).val = 0 + (i 0).val ∧ (r0_16.idx i 1).val = 0 + (i 1).val := ⟨Rect.idx_unit_val _ _ _ _ _, Rect.idx_unit_val _ _ _ _ _⟩
theorem at17 (i : S256x2048.Idx) : (r0_17.idx i 0).val = 0 + (i 0).val ∧ (r0_17.idx i 1).val = 0 + (i 1).val := ⟨Rect.idx_unit_val _ _ _ _ _, Rect.idx_unit_val _ _ _ _ _⟩
theorem at18 (i : S1x2048.Idx) : (r0_18.idx i 0).val = 0 + (i 0).val ∧ (r0_18.idx i 1).val = 0 + (i 1).val := ⟨Rect.idx_unit_val _ _ _ _ _, Rect.idx_unit_val _ _ _ _ _⟩
theorem at19 (i : S256x512.Idx) : (r0_19.idx i 0).val = 256 + (i 0).val ∧ (r0_19.idx i 1).val = 0 + (i 1).val := ⟨Rect.idx_unit_val _ _ _ _ _, Rect.idx_unit_val _ _ _ _ _⟩
theorem at20 (i : S256x1024.Idx) : (r0_20.idx i 0).val = 256 + (i 0).val ∧ (r0_20.idx i 1).val = 0 + (i 1).val := ⟨Rect.idx_unit_val _ _ _ _ _, Rect.idx_unit_val _ _ _ _ _⟩
theorem at21 (i : S256x2048.Idx) : (r0_21.idx i 0).val = 256 + (i 0).val ∧ (r0_21.idx i 1).val = 0 + (i 1).val := ⟨Rect.idx_unit_val _ _ _ _ _, Rect.idx_unit_val _ _ _ _ _⟩

set_option maxHeartbeats 1600000 in
/-- The second row part is the reference's rows. -/
theorem second (c : Dev nD) (hr : Real (m ((c : Thread nD τ).loc main_arg2)) (m ((c : Thread nD τ).loc main_arg3))) (t : Fin cfg0.N) (p : Fin 256) (k : Fin 2048) (r : Fin 8192)
    (hrow : r.val = t.val * 512 + (256 + p.val)) : k0_pay65 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p k) = REF m c (ix2 r k) := by
  have ht : t.val < 16 := t.isLt
  rw [second_eq]
  refine (part_apply _ _ _ _ _ _ _ _ _ _ _ _ _ _ _ _ _ _ _ _ _ _ _ _ _).trans (Eq.trans (out_congr ?_ ?_ ?_ ?_ ?_ ?_ ?_ ?_ ?_ ?_ ?_ ?_ ?_ ?_ ?_ rfl) (ref_out _ _ _ _ _ _ _ _ _ _ _ hr.1 hr.2 _ _).symm)
  · intro j
    refine (blk0 m c t _).trans ?_
    blk_ext [hrow, at21, ix2, ix3]
  · intro j
    refine (blk1 m c t _).trans ?_
    blk_ext [hrow, at20, ix2, ix3]
  · intro j
    refine (blk2 m c t _).trans ?_
    blk_ext [hrow, at19, ix2, ix3]
  · intro h j
    fin_cases h <;> refine (blk6 m c t _).trans ?_ <;> blk_ext [hrow, at0, at1, at2, at3, ix2, ix3]
  · intro j e
    refine (blk3 m c t _).trans ?_
    blk_ext [hrow, at19, ix2, ix3]
  · intro j
    refine (blk8 m c t _).trans ?_
    blk_ext [hrow, at6, ix2, ix3]
  · intro j
    refine (blk9 m c t _).trans ?_
    blk_ext [hrow, at6, ix2, ix3]
  · intro h
    refine (blk7 m c t _).trans ?_
    blk_ext [hrow, at4, ix2, ix3]
  · apply Fin.ext; simp only [hrow]; omega
  · intro j
    refine (blk4 m c t _).trans ?_
    blk_ext [hrow, at19, ix2, ix3]
  · intro h s d
    fin_cases h <;> refine (blk5 m c t _).trans ?_ <;> blk_ext [hrow, at7, at8, at9, at10, at11, at12, at13, at14, ix2, ix3]
  · intro h s d
    fin_cases h <;> refine (blk5 m c t _).trans ?_ <;> blk_ext [hrow, at7, at8, at9, at10, at11, at12, at13, at14, ix2, ix3]
  · intro a b
    refine (blk10 m c t _).trans ?_
    blk_ext [hrow, at16, ix2, ix3]
  · refine (blk11 m c t _).trans ?_
    blk_ext [hrow, at18, ix2, ix3]
  · refine (blk12 m c t _).trans ?_
    blk_ext [hrow, at18, ix2, ix3]

set_option maxHeartbeats 1600000 in
/-- The first row part is the reference's rows. -/
theorem first (c : Dev nD) (hr : Real (m ((c : Thread nD τ).loc main_arg2)) (m ((c : Thread nD τ).loc main_arg3))) (t : Fin cfg0.N) (p : Fin 256) (k : Fin 2048) (r : Fin 8192)
    (hrow : r.val = t.val * 512 + (0 + p.val)) : k0_pay29 (k0_pay58 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay59 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay60 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 p k) = REF m c (ix2 r k) := by
  have ht : t.val < 16 := t.isLt
  rw [first_eq]
  refine (part_apply _ _ _ _ _ _ _ _ _ _ _ _ _ _ _ _ _ _ _ _ _ _ _ _ _).trans (Eq.trans (out_congr ?_ ?_ ?_ ?_ ?_ ?_ ?_ ?_ ?_ ?_ ?_ ?_ ?_ ?_ ?_ rfl) (ref_out _ _ _ _ _ _ _ _ _ _ _ hr.1 hr.2 _ _).symm)
  · intro j
    refine (blk0 m c t _).trans ?_
    blk_ext [hrow, at17, ix2, ix3]
  · intro j
    refine (blk1 m c t _).trans ?_
    blk_ext [hrow, at15, ix2, ix3]
  · intro j
    refine (blk2 m c t _).trans ?_
    blk_ext [hrow, at5, ix2, ix3]
  · intro h j
    fin_cases h <;> refine (blk6 m c t _).trans ?_ <;> blk_ext [hrow, at0, at1, at2, at3, ix2, ix3]
  · intro j e
    refine (blk3 m c t _).trans ?_
    blk_ext [hrow, at5, ix2, ix3]
  · intro j
    refine (blk8 m c t _).trans ?_
    blk_ext [hrow, at6, ix2, ix3]
  · intro j
    refine (blk9 m c t _).trans ?_
    blk_ext [hrow, at6, ix2, ix3]
  · intro h
    refine (blk7 m c t _).trans ?_
    blk_ext [hrow, at4, ix2, ix3]
  · apply Fin.ext; simp only [hrow]; omega
  · intro j
    refine (blk4 m c t _).trans ?_
    blk_ext [hrow, at5, ix2, ix3]
  · intro h s d
    fin_cases h <;> refine (blk5 m c t _).trans ?_ <;> blk_ext [hrow, at7, at8, at9, at10, at11, at12, at13, at14, ix2, ix3]
  · intro h s d
    fin_cases h <;> refine (blk5 m c t _).trans ?_ <;> blk_ext [hrow, at7, at8, at9, at10, at11, at12, at13, at14, ix2, ix3]
  · intro a b
    refine (blk10 m c t _).trans ?_
    blk_ext [hrow, at16, ix2, ix3]
  · refine (blk11 m c t _).trans ?_
    blk_ext [hrow, at18, ix2, ix3]
  · refine (blk12 m c t _).trans ?_
    blk_ext [hrow, at18, ix2, ix3]

/-- The reference's second result, the first one rounded, over the kernel's argument arrays. -/
abbrev REFB (c : Dev nD) : FVec Ideal S8192x2048 .bf16 :=
  Cert.RefMixIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What the body leaves in the first result's buffer at point `t` is the reference's block. -/
theorem point (c : Dev nD) (hr : Real (m ((c : Thread nD τ).loc main_arg2)) (m ((c : Thread nD τ).loc main_arg3))) (t : Fin cfg0.N) (y) : (dats m 0 c).after 13 t y = REF m c (((cfg0.win 13).blk t).view.emb y) := by
  rw [after0_13]; unfold out0_13
  obtain ⟨hb0, hb1⟩ : (y 0).val < 512 ∧ (y 1).val < 2048 := ⟨(y 0).isLt, (y 1).isLt⟩
  have ht : t.val < 16 := t.isLt
  have e : ((cfg0.win 13).blk t).view.emb y = ix2 (⟨t.val * 512 + (y 0).val, by omega⟩ : Fin 8192) (⟨(y 1).val, hb1⟩ : Fin 2048) := by
    blk_ext [idx t]
  rw [e]
  canon_tiles x h
  · have hx : x = ix2 (⟨(x 0).val, x0_lt⟩ : Fin 256) (⟨(y 1).val, hb1⟩ : Fin 2048) := by
      refine (eq_ix2 x).trans ?_
      exact congrArg₂ ix2 (Fin.ext rfl) (Fin.ext h1.symm)
    rw [hx]
    exact second m c hr t _ _ _ (by simp only [h0])
  · have hx : x = ix2 (⟨(x 0).val, x0_lt⟩ : Fin 256) (⟨(y 1).val, hb1⟩ : Fin 2048) := by
      refine (eq_ix2 x).trans ?_
      exact congrArg₂ ix2 (Fin.ext rfl) (Fin.ext h1.symm)
    rw [hx]
    exact first m c hr t _ _ _ (by simp only [h0]; omega)

/-- The first result array after the run. -/
theorem final (c : Dev nD) (hr : Real (m ((c : Thread nD τ).loc main_arg2)) (m ((c : Thread nD τ).loc main_arg3))) : (dats m 0 c).arrAt 13 cfg0.N = REF m c := by
  refine (dats m 0 c).arrAt_eq_of_covers 13 _ (by decide +kernel) fun t _ y => ?_
  blk_simp
  exact point m c hr t y

/-- What the body leaves in the second result's buffer at point `t` is the reference's block. -/
theorem pointB (c : Dev nD) (hr : Real (m ((c : Thread nD τ).loc main_arg2)) (m ((c : Thread nD τ).loc main_arg3))) (t : Fin cfg0.N) (y) : (dats m 0 c).after 14 t y = REFB m c (((cfg0.win 14).blk t).view.emb y) := by
  rw [after0_14]; unfold out0_14
  obtain ⟨hb0, hb1⟩ : (y 0).val < 512 ∧ (y 1).val < 2048 := ⟨(y 0).isLt, (y 1).isLt⟩
  have ht : t.val < 16 := t.isLt
  have e : ((cfg0.win 14).blk t).view.emb y = ix2 (⟨t.val * 512 + (y 0).val, by omega⟩ : Fin 8192) (⟨(y 1).val, hb1⟩ : Fin 2048) := by
    blk_ext [idx t]
  rw [e]
  canon_tiles x h
  · have hx : x = ix2 (⟨(x 0).val, x0_lt⟩ : Fin 256) (⟨(y 1).val, hb1⟩ : Fin 2048) := by
      refine (eq_ix2 x).trans ?_
      exact congrArg₂ ix2 (Fin.ext rfl) (Fin.ext h1.symm)
    rw [hx]
    exact second m c hr t _ _ _ (by simp only [h0])
  · have hx : x = ix2 (⟨(x 0).val, x0_lt⟩ : Fin 256) (⟨(y 1).val, hb1⟩ : Fin 2048) := by
      refine (eq_ix2 x).trans ?_
      exact congrArg₂ ix2 (Fin.ext rfl) (Fin.ext h1.symm)
    rw [hx]
    exact first m c hr t _ _ _ (by simp only [h0]; omega)

/-- The second result array after the run. -/
theorem finalB (c : Dev nD) (hr : Real (m ((c : Thread nD τ).loc main_arg2)) (m ((c : Thread nD τ).loc main_arg3))) : (dats m 0 c).arrAt 14 cfg0.N = REFB m c := by
  refine (dats m 0 c).arrAt_eq_of_covers 14 _ (by decide +kernel) fun t _ y => ?_
  blk_simp
  exact pointB m c hr t y

end Cert.Proof.MixValue

end
-- ==== Proof.Hidden.lean ====
/-
  Hand-written, untrusted. The value of `HiddenIdeal`: the hidden activations of the feed-forward, the gated product of two projections,
  and the output weights it hands on in half precision, block by block.
-/
module

public import proofs.«01_k».proof.Defs
public import proofs.«01_k».proof.Proof.Gen.HiddenIdeal.Frame
public import proofs.«01_k».proof.Proof.Gen.RefHiddenIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.HiddenValue

open Cert.HiddenIdeal Cert.HiddenIdeal.Gen

variable (m : (ℓ : Loc nD τ sig) → Buf (Elt Ideal) ℓ)

/-- The reference's hidden activations over the kernel's argument arrays. -/
abbrev REF (x : FVec Ideal S8192x2048 .f32) (wg wu : FVec Ideal S1x2048x5632 .f32) : FVec Ideal S8192x5632 .bf16 :=
  Cert.RefHiddenIdeal.Read.val_main_v6 (F := Ideal) x wg wu

/-- The reference's output weights over the kernel's argument array. -/
abbrev REFW (w : FVec Ideal S1x5632x2048 .f32) : FVec Ideal S5632x2048 .bf16 :=
  Cert.RefHiddenIdeal.Read.val_main_v8 (F := Ideal) w

/-- Every window's block index at every point. -/
theorem idx : ∀ t : Fin cfg0.N, win0_0.index t = ![t.val % 4, 0] ∧ win0_1.index t = ![0, t.val / 4] ∧ win0_2.index t = ![0, t.val / 4]
    ∧ win0_3.index t = ![t.val, 0] ∧ win0_4.index t = ![t.val % 4, t.val / 4] ∧ win0_5.index t = ![t.val, 0] :=
  (by decide +kernel : ∀ t : Fin grid0.N, win0_0.index t = ![t.val % 4, 0] ∧ win0_1.index t = ![0, t.val / 4] ∧ win0_2.index t = ![0, t.val / 4]
    ∧ win0_3.index t = ![t.val, 0] ∧ win0_4.index t = ![t.val % 4, t.val / 4] ∧ win0_5.index t = ![t.val, 0])

/-- The gated unit: the gate times its logistic times the up projection. -/
def gated (g u : EReal) : EReal := g * Ideal.logistic g * u

/-- The reference's hidden activations, entry by entry. -/
theorem ref_apply (x : FVec Ideal S8192x2048 .f32) (wg wu : FVec Ideal S1x2048x5632 .f32) (y : S8192x5632.Idx) : REF x wg wu y
    = gated (∑ k : Fin 2048, x (ix2 (y 0) k) * wg (ix3 0 k (y 1))) (∑ k : Fin 2048, x (ix2 (y 0) k) * wu (ix3 0 k (y 1))) := by
  pointwise [REF, Cert.RefHiddenIdeal.Read.val_main_v6, Cert.RefHiddenIdeal.Read.val_main_v5, Cert.RefHiddenIdeal.Read.val_main_v4,
    Cert.RefHiddenIdeal.Read.val_main_v3, Cert.RefHiddenIdeal.Read.val_main_v2, Cert.RefHiddenIdeal.Read.val_main_call0_v5,
    Cert.RefHiddenIdeal.Read.val_main_call0_v4, Cert.RefHiddenIdeal.Read.val_main_call0_v3, Cert.RefHiddenIdeal.Read.val_main_call0_v2,
    Cert.RefHiddenIdeal.Read.val_main_call0_v1, Cert.RefHiddenIdeal.Read.val_main_call0_v0, Cert.RefHiddenIdeal.Read.val_main_v1,
    Cert.RefHiddenIdeal.Read.val_main_v0, Cert.RefHiddenIdeal.Read.val_main_call0_cst, Cert.RefHiddenIdeal.Read.val_main_call0_cst_0]
  rfl

/-- A row part's stored value, entry by entry. -/
theorem pay_apply (h : Vec Ideal S1024x2048 .bf16) (w v : Vec Ideal S2048x256 .bf16) (y : S1024x256.Idx) : k0_pay8 h w v y
    = gated (∑ k : Fin 2048, h (ix2 (y 0) k) * w (ix2 k (y 1))) (∑ k : Fin 2048, h (ix2 (y 0) k) * v (ix2 k (y 1))) := by
  pointwise [k0_pay8, k0_pay7]
  rfl

/-- The rows the launch hands the kernel, read at an index. -/
theorem x_read (c : Dev nD) (i : S8192x2048.Idx) : V m c main_v0 i = m ((c : Thread nD τ).loc main_arg0) i := by
  entry_read
  pointwise

/-- The gate weights the launch hands the kernel, read at an index. -/
theorem wg_read (c : Dev nD) (i : S2048x5632.Idx) : V m c main_v1 i = m ((c : Thread nD τ).loc main_arg1) (ix3 0 (i 0) (i 1)) := by
  entry_read
  pointwise

/-- The up weights the launch hands the kernel, read at an index. -/
theorem wu_read (c : Dev nD) (i : S2048x5632.Idx) : V m c main_v2 i = m ((c : Thread nD τ).loc main_arg2) (ix3 0 (i 0) (i 1)) := by
  entry_read
  pointwise

/-- The output weights the launch hands the kernel, read at an index. -/
theorem wd_read (c : Dev nD) (i : S5632x2048.Idx) : V m c main_v3 i = m ((c : Thread nD τ).loc main_arg3) (ix3 0 (i 0) (i 1)) := by
  entry_read
  pointwise

/-- The points of one column of the grid read the same block of gate weights. -/
theorem wg_eq (c : Dev nD) (t t' : Fin cfg0.N) (h : t.val / 4 = t'.val / 4) : iblk m c 1 t = iblk m c 1 t' := by
  funext x
  blk_ext [iblk, V, idx t, idx t']

/-- The points of one column of the grid read the same block of up weights. -/
theorem wu_eq (c : Dev nD) (t t' : Fin cfg0.N) (h : t.val / 4 = t'.val / 4) : iblk m c 2 t = iblk m c 2 t' := by
  funext x
  blk_ext [iblk, V, idx t, idx t']

/-- The carried scratches after point `n` hold the gate and the up weights of that point's column. -/
theorem scratch (c : Dev nD) (n : ℕ) (h : n < cfg0.N) : (outsAt0 m c n h).2.2.1 = k0_pay4 (iblk m c 1 ⟨n, h⟩)
    ∧ (outsAt0 m c n h).2.2.2 = k0_pay5 (iblk m c 2 ⟨n, h⟩) := by
  induction n with
  | zero =>
    rw [outsAt0_A m c ⟨0, h⟩ (Nat.zero_mod _)]
    dsimp only
    constructor <;> frame_out
  | succ n ih =>
    by_cases h0 : (n + 1) % 4 = 0
    · rw [outsAt0_A m c ⟨n + 1, h⟩ h0]
      dsimp only
      constructor <;> frame_out
    · have hs : (outsAt0 m c (n + 1) h).2.2 = (outsAt0 m c n (Nat.lt_of_succ_lt h)).2.2 := by
        rw [outsAt0_B m c ⟨n + 1, h⟩ h0]
        rfl
      rw [hs, (ih (Nat.lt_of_succ_lt h)).1, (ih (Nat.lt_of_succ_lt h)).2,
        wg_eq m c ⟨n, Nat.lt_of_succ_lt h⟩ ⟨n + 1, h⟩ (by dsimp only; omega), wu_eq m c ⟨n, Nat.lt_of_succ_lt h⟩ ⟨n + 1, h⟩ (by dsimp only; omega)]
      exact ⟨rfl, rfl⟩

/-- What the body stores in the activations' buffer: two row parts by two column parts, over the rows `X` and the
    weights `W0`, `W1` it keeps. -/
def parts (X : Vec Ideal S2048x2048 .bf16) (W0 W1 : Vec Ideal S2048x512 .bf16) : Vec Ideal S2048x512 .bf16 :=
  View.canon
      [⟨Rect.unit ![1024, 256] ![1024, 256] inb_S2048x512_S1024x256_1024_256,
          k0_pay3 (View.ld X (Rect.unit ![1024, 0] ![1024, 2048] inb_S2048x2048_S1024x2048_1024_0))
            (View.ld W0 (Rect.unit ![0, 256] ![2048, 256] inb_S2048x512_S2048x256_0_256))
            (View.ld W1 (Rect.unit ![0, 256] ![2048, 256] inb_S2048x512_S2048x256_0_256))⟩,
        ⟨Rect.unit ![1024, 0] ![1024, 256] inb_S2048x512_S1024x256_1024_0,
          k0_pay2 (View.ld X (Rect.unit ![1024, 0] ![1024, 2048] inb_S2048x2048_S1024x2048_1024_0))
            (View.ld W0 (Rect.unit ![0, 0] ![2048, 256] inb_S2048x512_S2048x256_0_0))
            (View.ld W1 (Rect.unit ![0, 0] ![2048, 256] inb_S2048x512_S2048x256_0_0))⟩,
        ⟨Rect.unit ![0, 256] ![1024, 256] inb_S2048x512_S1024x256_0_256,
          k0_pay9 (View.ld X (Rect.unit ![0, 0] ![1024, 2048] inb_S2048x2048_S1024x2048_0_0))
            (View.ld W0 (Rect.unit ![0, 256] ![2048, 256] inb_S2048x512_S2048x256_0_256))
            (View.ld W1 (Rect.unit ![0, 256] ![2048, 256] inb_S2048x512_S2048x256_0_256))⟩,
        ⟨Rect.unit ![0, 0] ![1024, 256] inb_S2048x512_S1024x256_0_0,
          k0_pay8 (View.ld X (Rect.unit ![0, 0] ![1024, 2048] inb_S2048x2048_S1024x2048_0_0))
            (View.ld W0 (Rect.unit ![0, 0] ![2048, 256] inb_S2048x512_S2048x256_0_0))
            (View.ld W1 (Rect.unit ![0, 0] ![2048, 256] inb_S2048x512_S2048x256_0_0))⟩]

/-- The stored parts, entry by entry. -/
theorem parts_apply (X : Vec Ideal S2048x2048 .bf16) (W0 W1 : Vec Ideal S2048x512 .bf16) (y : S2048x512.Idx) : parts X W0 W1 y
    = gated (∑ k : Fin 2048, X (ix2 (y 0) k) * W0 (ix2 k (y 1))) (∑ k : Fin 2048, X (ix2 (y 0) k) * W1 (ix2 k (y 1))) := by
  unfold parts
  obtain ⟨hb0, hb1⟩ : (y 0).val < 2048 ∧ (y 1).val < 512 := ⟨(y 0).isLt, (y 1).isLt⟩
  canon_tiles x h
  all_goals
    refine (pay_apply _ _ _ _).trans (congrArg₂ gated (Finset.sum_congr rfl fun k _ => congrArg₂ (· * ·) ?_ ?_)
      (Finset.sum_congr rfl fun k _ => congrArg₂ (· * ·) ?_ ?_))
  all_goals
    refine View.ld_unit_apply_of _ _ _ _ _ _ fun a => ?_
    fin_cases a <;> simp [ix2, h0, h1]

/-- What the body leaves in the activations' buffer: the parts over the point's rows and its column's weights. -/
theorem after_eq (c : Dev nD) (t : Fin cfg0.N) : (dats m 0 c).after 4 t = parts (iblk m c 0 t) (k0_pay4 (iblk m c 1 t)) (k0_pay5 (iblk m c 2 t)) := by
  rw [after0_4]
  by_cases h0 : t.val % 4 = 0
  · rw [outsAt0_A m c t h0]
    frame_out
    have hz : ∀ a : Fin S2048x512.rank, (![0, 0] : Fin S2048x512.rank → ℕ) a = 0 := by intro a; fin_cases a <;> rfl
    rw [View.readCov_fill _ _ _ _ _ hz, View.readCov_fill _ _ _ _ _ hz, View.readCov_fill _ _ _ _ _ hz, View.readCov_fill _ _ _ _ _ hz]
  · obtain ⟨hs0, hs1⟩ := scratch m c (t.val - 1) (by omega)
    rw [wg_eq m c ⟨t.val - 1, by omega⟩ t (by dsimp only; omega)] at hs0
    rw [wu_eq m c ⟨t.val - 1, by omega⟩ t (by dsimp only; omega)] at hs1
    rw [outsAt0_B m c t h0]
    frame_out
    rw [read_unread_whole, read_unread_whole, hs0, hs1]

/-- The kept weights are the gate weights, entry by entry. -/
theorem pay4_apply (w : Vec Ideal S2048x512 .f32) (y : S2048x512.Idx) : k0_pay4 w y = w y := by
  pointwise [k0_pay4]

/-- The kept weights are the up weights, entry by entry. -/
theorem pay5_apply (w : Vec Ideal S2048x512 .f32) (y : S2048x512.Idx) : k0_pay5 w y = w y := by
  pointwise [k0_pay5]

/-- What the body leaves in the activations' buffer at point `t` is the reference's block. -/
theorem point (c : Dev nD) (t : Fin cfg0.N) (y) : (dats m 0 c).after 4 t y
    = REF (m ((c : Thread nD τ).loc main_arg0)) (m ((c : Thread nD τ).loc main_arg1)) (m ((c : Thread nD τ).loc main_arg2)) (((cfg0.win 4).blk t).view.emb y) := by
  rw [after_eq]
  refine (parts_apply _ _ _ _).trans (Eq.trans (congrArg₂ gated (Finset.sum_congr rfl fun k _ => congrArg₂ (· * ·) ?_ ?_)
      (Finset.sum_congr rfl fun k _ => congrArg₂ (· * ·) ?_ ?_)) (ref_apply _ _ _ _).symm)
  · refine (x_read m c _).trans ?_
    blk_ext [idx t]
  · refine (pay4_apply _ _).trans ((wg_read m c _).trans ?_)
    blk_ext [idx t]
  · refine (x_read m c _).trans ?_
    blk_ext [idx t]
  · refine (pay5_apply _ _).trans ((wu_read m c _).trans ?_)
    blk_ext [idx t]

/-- What the body leaves in the handed-on weights' buffer at point `t` is the reference's block. -/
theorem pointW (c : Dev nD) (t : Fin cfg0.N) (y) : (dats m 0 c).after 5 t y
    = REFW (m ((c : Thread nD τ).loc main_arg3)) (((cfg0.win 5).blk t).view.emb y) := by
  have e : (dats m 0 c).after 5 t = k0_pay6 (iblk m c 3 t) := by
    rw [after0_5]
    by_cases h0 : t.val % 4 = 0
    · rw [outsAt0_A m c t h0]
      frame_out
    · rw [outsAt0_B m c t h0]
      frame_out
  rw [e]
  pointwise [k0_pay6, REFW, Cert.RefHiddenIdeal.Read.val_main_v8, Cert.RefHiddenIdeal.Read.val_main_v7]
  refine (wd_read m c _).trans ?_
  blk_ext [idx t]

/-- The activations' array after the run. -/
theorem final (c : Dev nD) : (dats m 0 c).arrAt 4 cfg0.N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  exact point m c t y

/-- The handed-on weights' array after the run. -/
theorem finalW (c : Dev nD) : (dats m 0 c).arrAt 5 cfg0.N = REFW (m ((c : Thread nD τ).loc main_arg3)) := by
  refine (dats m 0 c).arrAt_eq_of_covers 5 _ (by decide +kernel) fun t _ y => ?_
  blk_simp
  exact pointW m c t y

end Cert.Proof.HiddenValue

end
-- ==== Proof.Down.lean ====
/-
  Hand-written, untrusted. The value of `DownIdeal`: the feed-forward output call.
  down projection, the residual and the layer norm, block by block.
-/
module

public import proofs.«01_k».proof.Defs
public import proofs.«01_k».proof.Proof.Gen.DownIdeal.Frame
public import proofs.«01_k».proof.Proof.Gen.RefDownIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.DownValue

open Cert.DownIdeal Cert.DownIdeal.Gen

variable (m : (ℓ : Loc nD τ sig) → Buf (Elt Ideal) ℓ)

/-- The reference's result over the kernel's argument arrays. -/
abbrev REF (h : FVec Ideal S8192x5632 .f32) (x : FVec Ideal S8192x2048 .f32) (w : FVec Ideal S1x5632x2048 .f32)
    (g : FVec Ideal S1x2048 .f32) (b : FVec Ideal S1x2048 .f32) : FVec Ideal S8192x2048 .f32 :=
  Cert.RefDownIdeal.Read.val_main_v30 (F := Ideal) h x w g b

/-- Every window's block index at every point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![t.val, 0])

/-- The layer norm of a row `r` at column `j`, with gain `g` and shift `b`. -/
def ln (r : Fin 2048 → EReal) (g b : EReal) (j : Fin 2048) : EReal :=
  (r j - Ideal.div (∑ k, r k) (Ideal.ofBits .f32 1157627904#32))
    * Ideal.rsqrt (Ideal.div (∑ k, (r k - Ideal.div (∑ l, r l) (Ideal.ofBits .f32 1157627904#32))
        * (r k - Ideal.div (∑ l, r l) (Ideal.ofBits .f32 1157627904#32))) (Ideal.ofBits .f32 1157627904#32)
      + Ideal.ofBits .f32 925353388#32) * g + b

/-- The row the layer norm is taken of: the scaled residual plus the down projection. -/
def row (x : Fin 2048 → EReal) (f : Fin 2048 → EReal) (k : Fin 2048) : EReal := Ideal.ofBits .f32 1066940400#32 * x k + f k

/-- Equal rows, gains and shifts give equal layer norms. -/
theorem ln_congr {x x' f f' : Fin 2048 → EReal} {g g' b b' : EReal} {j j' : Fin 2048} (hx : ∀ k, x k = x' k) (hf : ∀ k, f k = f' k)
    (hg : g = g') (hb : b = b') (hj : j = j') : ln (row x f) g b j = ln (row x' f') g' b' j' := by
  rw [funext hx, funext hf, hg, hb, hj]

/-- The reference's result, entry by entry. -/
theorem ref_apply (h : FVec Ideal S8192x5632 .f32) (x : FVec Ideal S8192x2048 .f32) (w : FVec Ideal S1x5632x2048 .f32)
    (g : FVec Ideal S1x2048 .f32) (b : FVec Ideal S1x2048 .f32) (y : S8192x2048.Idx) : REF h x w g b y
    = ln (row (fun k => x (ix2 (y 0) k)) fun k => ∑ q : Fin 5632, h (ix2 (y 0) q) * w (ix3 0 q k)) (g (ix2 0 (y 1))) (b (ix2 0 (y 1))) (y 1) := by
  obtain ⟨p, q, rfl⟩ : ∃ p q, y = ix2 p q := ⟨_, _, eq_ix2 y⟩
  pointwise [REF, Cert.RefDownIdeal.Read.val_main_v30, Cert.RefDownIdeal.Read.val_main_v29, Cert.RefDownIdeal.Read.val_main_v28, Cert.RefDownIdeal.Read.val_main_v27,
    Cert.RefDownIdeal.Read.val_main_v26, Cert.RefDownIdeal.Read.val_main_v25, Cert.RefDownIdeal.Read.val_main_v24, Cert.RefDownIdeal.Read.val_main_v23,
    Cert.RefDownIdeal.Read.val_main_v22, Cert.RefDownIdeal.Read.val_main_v21, Cert.RefDownIdeal.Read.val_main_v20, Cert.RefDownIdeal.Read.val_main_v19,
    Cert.RefDownIdeal.Read.val_main_v18, Cert.RefDownIdeal.Read.val_main_v17, Cert.RefDownIdeal.Read.val_main_v16, Cert.RefDownIdeal.Read.val_main_v15,
    Cert.RefDownIdeal.Read.val_main_v14, Cert.RefDownIdeal.Read.val_main_v13, Cert.RefDownIdeal.Read.val_main_v12, Cert.RefDownIdeal.Read.val_main_v11,
    Cert.RefDownIdeal.Read.val_main_v10, Cert.RefDownIdeal.Read.val_main_v9, Cert.RefDownIdeal.Read.val_main_v8, Cert.RefDownIdeal.Read.val_main_v7,
    Cert.RefDownIdeal.Read.val_main_v6, Cert.RefDownIdeal.Read.val_main_v5, Cert.RefDownIdeal.Read.val_main_v4, Cert.RefDownIdeal.Read.val_main_v3,
    Cert.RefDownIdeal.Read.val_main_v2, Cert.RefDownIdeal.Read.val_main_v1, Cert.RefDownIdeal.Read.val_main_v0, Cert.RefDownIdeal.Read.val_main_cst,
    Cert.RefDownIdeal.Read.val_main_cst_0, Cert.RefDownIdeal.Read.val_main_cst_1, Cert.RefDownIdeal.Read.val_main_cst_2,
    Cert.RefDownIdeal.Read.val_main_cst_3, Cert.RefDownIdeal.Read.val_main_cst_4]
  rfl

/-- The first row part's stored value, entry by entry. -/
theorem pay3_apply (x f : Vec Ideal S256x2048 .f32) (g b : Vec Ideal S1x2048 .f32) (y : S256x2048.Idx) : k0_pay3 x f g b y
    = ln (row (fun k => x (ix2 (y 0) k)) fun k => f (ix2 (y 0) k)) (g (ix2 0 (y 1))) (b (ix2 0 (y 1))) (y 1) := by
  obtain ⟨p, q, rfl⟩ : ∃ p q, y = ix2 p q := ⟨_, _, eq_ix2 y⟩
  pointwise [k0_pay3]
  rfl

/-- The second row part's stored value, entry by entry. -/
theorem pay1_apply (x f : Vec Ideal S256x2048 .f32) (g b : Vec Ideal S1x2048 .f32) (y : S256x2048.Idx) :
    k0_pay1 (k0_pay5 b) (k0_pay6 x f) (k0_pay7 g) y
    = ln (row (fun k => x (ix2 (y 0) k)) fun k => f (ix2 (y 0) k)) (g (ix2 0 (y 1))) (b (ix2 0 (y 1))) (y 1) := by
  obtain ⟨p, q, rfl⟩ : ∃ p q, y = ix2 p q := ⟨_, _, eq_ix2 y⟩
  pointwise [k0_pay1, k0_pay5, k0_pay6, k0_pay7]
  rfl

/-- The first row part's product, entry by entry. -/
theorem pay2_apply (h : Vec Ideal S256x5632 .bf16) (w : Vec Ideal S5632x2048 .bf16) (y : S256x2048.Idx) :
    k0_pay2 h w y = ∑ q : Fin 5632, h (ix2 (y 0) q) * w (ix2 q (y 1)) := by
  pointwise [k0_pay2]

/-- The second row part's product, entry by entry. -/
theorem pay4_apply (h : Vec Ideal S256x5632 .bf16) (w : Vec Ideal S5632x2048 .bf16) (y : S256x2048.Idx) :
    k0_pay4 h w y = ∑ q : Fin 5632, h (ix2 (y 0) q) * w (ix2 q (y 1)) := by
  pointwise [k0_pay4]

/-- The hidden rows the launch hands the kernel, read at an index. -/
theorem h_read (c : Dev nD) (i : S8192x5632.Idx) : V m c main_v0 i = m ((c : Thread nD τ).loc main_arg0) i := by
  entry_read
  pointwise

/-- The weights the launch hands the kernel, read at an index. -/
theorem w_read (c : Dev nD) (i : S5632x2048.Idx) : V m c main_v2 i = m ((c : Thread nD τ).loc main_arg2) (ix3 0 (i 0) (i 1)) := by
  entry_read
  pointwise

/-- The gain the launch hands the kernel, read at an index. -/
theorem g_read (c : Dev nD) (i : S1x2048.Idx) : V m c main_v4 i = m ((c : Thread nD τ).loc main_arg3) (ix2 0 (i 1)) := by
  entry_read
  pointwise

/-- The shift the launch hands the kernel, read at an index. -/
theorem b_read (c : Dev nD) (i : S1x2048.Idx) : V m c main_v6 i = m ((c : Thread nD τ).loc main_arg4) (ix2 0 (i 1)) := by
  entry_read
  pointwise

/-- What the body leaves in the result's buffer at point `t` is the reference's block. -/
theorem point (c : Dev nD) (t : Fin cfg0.N) (y) : (dats m 0 c).after 5 t y
    = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [after0_5]; unfold outsAt0; frame_out
  refine Eq.trans ?_ (ref_apply _ _ _ _ _ _).symm
  obtain ⟨hb0, hb1⟩ : (y 0).val < 512 ∧ (y 1).val < 2048 := ⟨(y 0).isLt, (y 1).isLt⟩
  canon_tiles x h
  · rw [View.readCov_cons_toLoadRect]
    refine (pay1_apply _ _ _ _ _).trans (ln_congr (fun k => ?_) (fun k => ?_) ?_ ?_ ?_)
    · blk_simp [iblk]
      refine (congrFun (V_main_arg1 m c) _).trans ?_
      blk_ext [idx t, h0] <;> first
          | exact (Rect.idx_unit_val _ _ _ _ _).trans (by simp [ix2])
          | exact (congrArg (t.val * 512 + ·) (Rect.idx_unit_val _ _ _ _ _)).trans (by simp [ix2])
    · refine (pay4_apply _ _ _).trans (Finset.sum_congr rfl fun q _ => congrArg₂ (· * ·) ?_ ?_)
      · blk_simp [iblk]
        refine (h_read m c _).trans ?_
        blk_ext [idx t, h0] <;> first
          | exact (Rect.idx_unit_val _ _ _ _ _).trans (by simp [ix2])
          | exact (congrArg (t.val * 512 + ·) (Rect.idx_unit_val _ _ _ _ _)).trans (by simp [ix2])
      · blk_simp [iblk]
        refine (w_read m c _).trans ?_
        blk_ext [idx t]
    · blk_simp [iblk]
      refine (g_read m c _).trans ?_
      blk_ext [idx t, h1]
    · blk_simp [iblk]
      refine (b_read m c _).trans ?_
      blk_ext [idx t, h1]
    · apply Fin.ext; blk_simp [idx t]; omega
  · rw [View.readCov_cons_toLoadRect]
    refine (pay3_apply _ _ _ _ _).trans (ln_congr (fun k => ?_) (fun k => ?_) ?_ ?_ ?_)
    · blk_simp [iblk]
      refine (congrFun (V_main_arg1 m c) _).trans ?_
      blk_ext [idx t, h0] <;> first
          | exact (Rect.idx_unit_val _ _ _ _ _).trans (by simp [ix2])
          | exact (congrArg (t.val * 512 + ·) (Rect.idx_unit_val _ _ _ _ _)).trans (by simp [ix2])
    · refine (pay2_apply _ _ _).trans (Finset.sum_congr rfl fun q _ => congrArg₂ (· * ·) ?_ ?_)
      · blk_simp [iblk]
        refine (h_read m c _).trans ?_
        blk_ext [idx t, h0] <;> first
          | exact (Rect.idx_unit_val _ _ _ _ _).trans (by simp [ix2])
          | exact (congrArg (t.val * 512 + ·) (Rect.idx_unit_val _ _ _ _ _)).trans (by simp [ix2])
      · blk_simp [iblk]
        refine (w_read m c _).trans ?_
        blk_ext [idx t]
    · blk_simp [iblk]
      refine (g_read m c _).trans ?_
      blk_ext [idx t, h1]
    · blk_simp [iblk]
      refine (b_read m c _).trans ?_
      blk_ext [idx t, h1]
    · apply Fin.ext; blk_simp [idx t]; omega

/-- The result array after the run. -/
theorem final (c : Dev nD) : (dats m 0 c).arrAt 5 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  exact point m c t y

end Cert.Proof.DownValue

end
-- ==== Proof.DilRun.Whole.lean ====
module

public import proofs.«01_k».proof.Proof.DilRun.Row1
public import proofs.«01_k».proof.Proof.DilRun.Row2
public import proofs.«01_k».proof.Proof.DilRun.Row3
public import proofs.«01_k».proof.Proof.DilRun.Row4

@[expose] public section

set_option maxRecDepth 16384

noncomputable section

namespace Cert.Dil.Hand

open Cert.Dil Cert.Dil.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (a2 : Memref sig .tc .smem S32x8 .f32) (h2 : a2.IsWhole) (a3 : Memref sig .tc .vmem S1x4096x128 .f32) (h3 : a3.IsWhole) (a4 : Memref sig .tc .vmem S1x4096x128 .f32) (h4 : a4.IsWhole) (a5 : Memref sig .tc .vmem S1x4096x128 .f32) (h5 : a5.IsWhole) (a6 : Memref sig .tc .vmem S128x2048 .f32) (h6 : a6.IsWhole) (a7 : Memref sig .tc .vmem S1x4096x128 .f32) (h7 : a7.IsWhole) (a8 : Memref sig .tc .vmem S128x2048 .bf16) (h8 : a8.IsWhole) (a9 : Memref sig .tc .vmem S4096x128 .f32) (h9 : a9.IsWhole) (a10 : Memref sig .tc .vmem S4096x128 .f32) (h10 : a10.IsWhole) (a11 : Memref sig .tc .vmem S4096x128 .f32) (h11 : a11.IsWhole) (a12 : Memref sig .tc .vmem S3x4096x128 .f32) (h12 : a12.IsWhole) (a13 : Memref sig .tc .vmem S3x4096x128 .f32) (h13 : a13.IsWhole) (a14 : Memref sig .tc .vmem S3x4096x128 .f32) (h14 : a14.IsWhole) (a15 : Memref sig .tc .vmem S6x128x256 .f32) (h15 : a15.IsWhole) (f2 : Buf (Elt F) (a2.view.loc (c : Thread nD τ))) (f3 : Buf (Elt F) (a3.view.loc (c : Thread nD τ))) (f4 : Buf (Elt F) (a4.view.loc (c : Thread nD τ))) (f5 : Buf (Elt F) (a5.view.loc (c : Thread nD τ))) (f6 : Buf (Elt F) (a6.view.loc (c : Thread nD τ)))

local notation "ST" => St c a2 a3 a4 a5 a6 a7 a8 a9 a10 a11 a12 a13 a14 a15 f2 f3 f4 f5 f6

local notation "WP" => wp frame (wpE (defs₀ (F := F)) Variants.none c none) Set.univ

set_option maxHeartbeats 40000000 in
/-- The whole body. -/
theorem runBody (K : _ → sProp 𝕄) :
    iprop(ST ∗ (∀ r, ST -∗ K r)) ⊢ WP (cc0_dilated_attn i a2 h2 a3 h3 a4 h4 a5 h5 a6 h6 a7 h7 a8 h8 a9 h9 a10 h10 a11 h11 a12 h12 a13 h13 a14 h14 a15 h15) K := by
  unfold cc0_dilated_attn
  refine seq c (run269 c i a2 h2 a3 h3 a4 h4 a5 h5 a6 h6 a7 h7 a8 h8 a9 h9 a10 h10 a11 h11 a12 h12 a13 h13 a14 h14 a15 h15 f2 f3 f4 f5 f6 ) K ?_
  rintro ⟨v1817, v1820, v1825, v1826, v1828, v1833, v1834, v1836, v1841, v1842, v1844, v1849, v1850, v1852, v1857, v1858, v1860, v1865, v1866, v2013, v2015⟩
  refine seq c (run270 c i a2 h2 a3 h3 a4 h4 a5 h5 a6 h6 a7 h7 a8 h8 a9 h9 a10 h10 a11 h11 a12 h12 a13 h13 a14 h14 a15 h15 f2 f3 f4 f5 f6 _ _ _ _ _ _ _ _ _ _ _ _ _ _ _ _ _ _ _ _ _ ) K ?_
  rintro ⟨v3706, v3722, v3738, v3754, v3770, v3786, v3802, v3818, v3834, v3850, v3866, v3882, v3898, v3900, v3905, v3906, v3908, v3913, v3914, v3916, v3921, v3922⟩
  refine seq c (run271 c i a2 h2 a3 h3 a4 h4 a5 h5 a6 h6 a7 h7 a8 h8 a9 h9 a10 h10 a11 h11 a12 h12 a13 h13 a14 h14 a15 h15 f2 f3 f4 f5 f6 _ _ _ _ _ _ _ _ _ _ _ _ _ _ _ _ _ _ _ _ _ _ ) K ?_
  rintro ⟨v5958, v5960, v5962, v5970, v5974⟩
  refine seq c (run272 c i a2 h2 a3 h3 a4 h4 a5 h5 a6 h6 a7 h7 a8 h8 a9 h9 a10 h10 a11 h11 a12 h12 a13 h13 a14 h14 a15 h15 f2 f3 f4 f5 f6 _ _ _ _ _ ) K ?_
  rintro ⟨v7960, v7964, v7965⟩
  dsimp only
  unfold St
  iintro ⟨⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩, Hk⟩
  sl_exec
  sl_step
  iapply Hk
  sl_close

end Cert.Dil.Hand

end
-- ==== Proof.DilIdealRun.St.lean ====
module

public import proofs.«01_k».proof.Proof.Gen.DilIdeal.Frame

@[expose] public section

set_option maxRecDepth 16384

noncomputable section

namespace Cert.DilIdeal.Hand

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The input windows' buffers at fixed contents, the output windows' and the scratch at any. -/
def St (c : Dev nD) (a2 : Memref sig .tc .smem S32x8 .f32) (a3 : Memref sig .tc .vmem S1x4096x128 .f32) (a4 : Memref sig .tc .vmem S1x4096x128 .f32) (a5 : Memref sig .tc .vmem S1x4096x128 .f32) (a6 : Memref sig .tc .vmem S128x2048 .f32) (a7 : Memref sig .tc .vmem S1x4096x128 .f32) (a8 : Memref sig .tc .vmem S128x2048 .bf16) (a9 : Memref sig .tc .vmem S4096x128 .f32) (a10 : Memref sig .tc .vmem S4096x128 .f32) (a11 : Memref sig .tc .vmem S4096x128 .f32) (a12 : Memref sig .tc .vmem S3x4096x128 .f32) (a13 : Memref sig .tc .vmem S3x4096x128 .f32) (a14 : Memref sig .tc .vmem S3x4096x128 .f32) (a15 : Memref sig .tc .vmem S6x128x256 .f32) (f2 : Buf (Elt F) (a2.view.loc (c : Thread nD τ))) (f3 : Buf (Elt F) (a3.view.loc (c : Thread nD τ))) (f4 : Buf (Elt F) (a4.view.loc (c : Thread nD τ))) (f5 : Buf (Elt F) (a5.view.loc (c : Thread nD τ))) (f6 : Buf (Elt F) (a6.view.loc (c : Thread nD τ))) : sProp 𝕄 :=
  iprop((a2.view.loc (c : Thread nD τ) ↦{fullShare} f2) ∗ (a3.view.loc (c : Thread nD τ) ↦{fullShare} f3) ∗ (a4.view.loc (c : Thread nD τ) ↦{fullShare} f4) ∗ (a5.view.loc (c : Thread nD τ) ↦{fullShare} f5) ∗ (a6.view.loc (c : Thread nD τ) ↦{fullShare} f6) ∗ (∃ f, a7.view.loc (c : Thread nD τ) ↦{fullShare} f) ∗ (∃ f, a8.view.loc (c : Thread nD τ) ↦{fullShare} f) ∗ (∃ f, a9.view.loc (c : Thread nD τ) ↦{fullShare} f) ∗ (∃ f, a10.view.loc (c : Thread nD τ) ↦{fullShare} f) ∗ (∃ f, a11.view.loc (c : Thread nD τ) ↦{fullShare} f) ∗ (∃ f, a12.view.loc (c : Thread nD τ) ↦{fullShare} f) ∗ (∃ f, a13.view.loc (c : Thread nD τ) ↦{fullShare} f) ∗ (∃ f, a14.view.loc (c : Thread nD τ) ↦{fullShare} f) ∗ (∃ f, a15.view.loc (c : Thread nD τ) ↦{fullShare} f))

/-- Two programs in sequence: what the first hands back, the second starts from. -/
theorem seq (c : Dev nD) {α β : Type} {S : sProp 𝕄} {p : Prog (TpuEff nD τ sig (Elt F) Λ₀ .tc) α} {k : α → Prog (TpuEff nD τ sig (Elt F) Λ₀ .tc) β}
    (hp : ∀ K : α → sProp 𝕄, iprop(S ∗ (∀ r, S -∗ K r)) ⊢ wp frame (wpE (defs₀ (F := F)) Variants.none c none) Set.univ p K)
    (K : β → sProp 𝕄) (hk : ∀ r, iprop(S ∗ (∀ r', S -∗ K r')) ⊢ wp frame (wpE (defs₀ (F := F)) Variants.none c none) Set.univ (k r) K) :
    iprop(S ∗ (∀ r, S -∗ K r)) ⊢ wp frame (wpE (defs₀ (F := F)) Variants.none c none) Set.univ (p >>= k) K := by
  rw [wp_bind]
  refine BIBase.Entails.trans ?_ (hp _)
  iintro ⟨HS, HK⟩
  isplitl [HS]; · iexact HS
  iintro %r HS
  iapply (hk r)
  isplitl [HS]; · iexact HS
  iexact HK

end Cert.DilIdeal.Hand

end
-- ==== Proof.DilIdealRun.First.lean ====
module

public import proofs.«01_k».proof.Proof.DilIdealRun.St

@[expose] public section

set_option maxRecDepth 16384

noncomputable section

namespace Cert.DilIdeal.Hand

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (a2 : Memref sig .tc .smem S32x8 .f32) (h2 : a2.IsWhole) (a3 : Memref sig .tc .vmem S1x4096x128 .f32) (h3 : a3.IsWhole) (a4 : Memref sig .tc .vmem S1x4096x128 .f32) (h4 : a4.IsWhole) (a5 : Memref sig .tc .vmem S1x4096x128 .f32) (h5 : a5.IsWhole) (a6 : Memref sig .tc .vmem S128x2048 .f32) (h6 : a6.IsWhole) (a7 : Memref sig .tc .vmem S1x4096x128 .f32) (h7 : a7.IsWhole) (a8 : Memref sig .tc .vmem S128x2048 .bf16) (h8 : a8.IsWhole) (a9 : Memref sig .tc .vmem S4096x128 .f32) (h9 : a9.IsWhole) (a10 : Memref sig .tc .vmem S4096x128 .f32) (h10 : a10.IsWhole) (a11 : Memref sig .tc .vmem S4096x128 .f32) (h11 : a11.IsWhole) (a12 : Memref sig .tc .vmem S3x4096x128 .f32) (h12 : a12.IsWhole) (a13 : Memref sig .tc .vmem S3x4096x128 .f32) (h13 : a13.IsWhole) (a14 : Memref sig .tc .vmem S3x4096x128 .f32) (h14 : a14.IsWhole) (a15 : Memref sig .tc .vmem S6x128x256 .f32) (h15 : a15.IsWhole) (f2 : Buf (Elt F) (a2.view.loc (c : Thread nD τ))) (f3 : Buf (Elt F) (a3.view.loc (c : Thread nD τ))) (f4 : Buf (Elt F) (a4.view.loc (c : Thread nD τ))) (f5 : Buf (Elt F) (a5.view.loc (c : Thread nD τ))) (f6 : Buf (Elt F) (a6.view.loc (c : Thread nD τ)))

local notation "ST" => St c a2 a3 a4 a5 a6 a7 a8 a9 a10 a11 a12 a13 a14 a15 f2 f3 f4 f5 f6

local notation "WP" => wp frame (wpE (defs₀ (F := F)) Variants.none c none) Set.univ

/-- The part with the branch on the grid point: both ways. -/
theorem run33 (arg0) (arg1) (K : _ → sProp 𝕄) :
    iprop(ST ∗ (∀ r, ST -∗ K r)) ⊢ WP (k0_part33 i a2 h2 a3 h3 a4 h4 a5 h5 a6 h6 a7 h7 a8 h8 a9 h9 a10 h10 a11 h11 a12 h12 a13 h13 a14 h14 a15 h15 arg0 arg1) K := by
  unfold k0_part33
  by_cases hc : k0_cond1 i = 1#1
  all_goals
    unfold St
    iintro ⟨⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩, Hk⟩
    sl_exec
    sl_step
    iapply Hk
    sl_close

end Cert.DilIdeal.Hand

end
-- ==== Proof.DilIdealRun.Row1.lean ====
module

public import proofs.«01_k».proof.Proof.DilIdealRun.First

@[expose] public section

set_option maxRecDepth 16384

noncomputable section

namespace Cert.DilIdeal.Hand

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (a2 : Memref sig .tc .smem S32x8 .f32) (h2 : a2.IsWhole) (a3 : Memref sig .tc .vmem S1x4096x128 .f32) (h3 : a3.IsWhole) (a4 : Memref sig .tc .vmem S1x4096x128 .f32) (h4 : a4.IsWhole) (a5 : Memref sig .tc .vmem S1x4096x128 .f32) (h5 : a5.IsWhole) (a6 : Memref sig .tc .vmem S128x2048 .f32) (h6 : a6.IsWhole) (a7 : Memref sig .tc .vmem S1x4096x128 .f32) (h7 : a7.IsWhole) (a8 : Memref sig .tc .vmem S128x2048 .bf16) (h8 : a8.IsWhole) (a9 : Memref sig .tc .vmem S4096x128 .f32) (h9 : a9.IsWhole) (a10 : Memref sig .tc .vmem S4096x128 .f32) (h10 : a10.IsWhole) (a11 : Memref sig .tc .vmem S4096x128 .f32) (h11 : a11.IsWhole) (a12 : Memref sig .tc .vmem S3x4096x128 .f32) (h12 : a12.IsWhole) (a13 : Memref sig .tc .vmem S3x4096x128 .f32) (h13 : a13.IsWhole) (a14 : Memref sig .tc .vmem S3x4096x128 .f32) (h14 : a14.IsWhole) (a15 : Memref sig .tc .vmem S6x128x256 .f32) (h15 : a15.IsWhole) (f2 : Buf (Elt F) (a2.view.loc (c : Thread nD τ))) (f3 : Buf (Elt F) (a3.view.loc (c : Thread nD τ))) (f4 : Buf (Elt F) (a4.view.loc (c : Thread nD τ))) (f5 : Buf (Elt F) (a5.view.loc (c : Thread nD τ))) (f6 : Buf (Elt F) (a6.view.loc (c : Thread nD τ)))

local notation "ST" => St c a2 a3 a4 a5 a6 a7 a8 a9 a10 a11 a12 a13 a14 a15 f2 f3 f4 f5 f6

local notation "WP" => wp frame (wpE (defs₀ (F := F)) Variants.none c none) Set.univ

set_option maxHeartbeats 40000000 in
/-- The parts that part 269 calls, one after the other. -/
theorem run269  (K : _ → sProp 𝕄) :
    iprop(ST ∗ (∀ r, ST -∗ K r)) ⊢ WP (k0_part269 i a2 h2 a3 h3 a4 h4 a5 h5 a6 h6 a7 h7 a8 h8 a9 h9 a10 h10 a11 h11 a12 h12 a13 h13 a14 h14 a15 h15 ) K := by
  unfold k0_part269
  refine seq c ?_ K ?_; swap
  rintro ⟨arg0, arg1, v27⟩
  refine seq c ?_ K ?_; swap
  rintro _u
  refine seq c (run33 c i a2 h2 a3 h3 a4 h4 a5 h5 a6 h6 a7 h7 a8 h8 a9 h9 a10 h10 a11 h11 a12 h12 a13 h13 a14 h14 a15 h15 f2 f3 f4 f5 f6 _ _ ) K ?_
  rintro ⟨v82, v83⟩
  refine seq c ?_ K ?_; swap
  rintro ⟨v90, v98, v106, v111, v113⟩
  refine seq c ?_ K ?_; swap
  rintro ⟨v114, v122, v130, v138, v143⟩
  refine seq c ?_ K ?_; swap
  rintro ⟨v146, v154, v162, v170, v172, v173⟩
  refine seq c ?_ K ?_; swap
  rintro ⟨v178, v186, v194, v202, v204⟩
  refine seq c ?_ K ?_; swap
  rintro ⟨v209, v210, v212, v217, v218, v220, v225, v226, v228, v233, v234, v236, v241, v242, v244, v249, v250, v252⟩
  refine seq c ?_ K ?_; swap
  rintro ⟨v257, v258, v260, v265, v266, v268, v273, v274, v276, v281, v282, v284, v289, v290, v292, v297, v298, v300⟩
  refine seq c ?_ K ?_; swap
  rintro ⟨v305, v306, v308, v313, v314, v316, v321, v322, v324, v329, v330, v333, v343⟩
  refine seq c ?_ K ?_; swap
  rintro ⟨v365, v372, v373⟩
  refine seq c ?_ K ?_; swap
  rintro ⟨v397, v404⟩
  refine seq c ?_ K ?_; swap
  rintro ⟨v429, v436⟩
  refine seq c ?_ K ?_; swap
  rintro v461
  refine seq c ?_ K ?_; swap
  rintro ⟨v493, v495⟩
  refine seq c ?_ K ?_; swap
  rintro ⟨v525, v527⟩
  refine seq c ?_ K ?_; swap
  rintro ⟨v557, v559⟩
  refine seq c ?_ K ?_; swap
  rintro ⟨v588, v589⟩
  refine seq c ?_ K ?_; swap
  rintro ⟨v594, v602, v610, v618, v619⟩
  refine seq c ?_ K ?_; swap
  rintro ⟨v626, v634, v642, v647, v649⟩
  refine seq c ?_ K ?_; swap
  rintro ⟨v650, v658, v666, v674, v679⟩
  refine seq c ?_ K ?_; swap
  rintro ⟨v682, v690, v698, v706, v708, v709⟩
  refine seq c ?_ K ?_; swap
  rintro ⟨v714, v716, v721, v722, v724, v729, v730, v732, v737, v738, v740, v745, v746, v748, v753, v754⟩
  refine seq c ?_ K ?_; swap
  rintro ⟨v756, v761, v762, v764, v769, v770, v772, v777, v778, v780, v785, v786, v788, v793, v794, v796, v801, v802⟩
  refine seq c ?_ K ?_; swap
  rintro ⟨v804, v809, v810, v812, v817, v818, v820, v825, v826, v828, v833, v834, v836, v841, v842, v845, v847⟩
  refine seq c ?_ K ?_; swap
  rintro ⟨v877, v879⟩
  refine seq c ?_ K ?_; swap
  rintro ⟨v909, v910⟩
  refine seq c ?_ K ?_; swap
  rintro ⟨v940, cst_622⟩
  refine seq c ?_ K ?_; swap
  rintro v971
  refine seq c ?_ K ?_; swap
  rintro _u
  refine seq c ?_ K ?_; swap
  rintro v1034
  refine seq c ?_ K ?_; swap
  rintro ⟨v1053, v1064⟩
  refine seq c ?_ K ?_; swap
  rintro v1085
  refine seq c ?_ K ?_; swap
  rintro ⟨v1106, v1114, v1122, v1124, v1125⟩
  refine seq c ?_ K ?_; swap
  rintro ⟨v1130, v1138, v1146, v1154, v1155⟩
  refine seq c ?_ K ?_; swap
  rintro ⟨v1162, v1170, v1178, v1183, v1185⟩
  refine seq c ?_ K ?_; swap
  rintro ⟨v1186, v1194, v1202, v1210, v1215⟩
  refine seq c ?_ K ?_; swap
  rintro ⟨v1218, v1226, v1228, v1233, v1234, v1236, v1241, v1242, v1244, v1249, v1250, v1252, v1255, v1257⟩
  refine seq c ?_ K ?_; swap
  rintro ⟨v1258, v1260, v1265, v1266, v1268, v1273, v1274, v1276, v1281, v1282, v1284, v1289, v1290, v1292, v1297, v1298, v1300, v1303, v1305⟩
  refine seq c ?_ K ?_; swap
  rintro ⟨v1306, v1308, v1313, v1314, v1316, v1321, v1322, v1324, v1329, v1330, v1332, v1337, v1338, v1340, v1345, v1346, v1348, v1351, v1353⟩
  refine seq c ?_ K ?_; swap
  rintro ⟨v1354, v1373, v1384⟩
  refine seq c ?_ K ?_; swap
  rintro v1405
  refine seq c ?_ K ?_; swap
  rintro v1437
  refine seq c ?_ K ?_; swap
  rintro ⟨v1469, v1476⟩
  refine seq c ?_ K ?_; swap
  rintro ⟨v1501, v1508⟩
  refine seq c ?_ K ?_; swap
  rintro ⟨v1533, v1540⟩
  refine seq c ?_ K ?_; swap
  rintro ⟨v1565, v1571⟩
  refine seq c ?_ K ?_; swap
  rintro ⟨v1597, v1602⟩
  refine seq c ?_ K ?_; swap
  rintro ⟨v1618, v1626, v1631⟩
  refine seq c ?_ K ?_; swap
  rintro ⟨v1634, v1642, v1650, v1658, v1660, v1661⟩
  refine seq c ?_ K ?_; swap
  rintro ⟨v1666, v1674, v1682, v1690, v1691⟩
  refine seq c ?_ K ?_; swap
  rintro ⟨v1698, v1706, v1714, v1719, v1721⟩
  refine seq c ?_ K ?_; swap
  rintro ⟨v1722, v1730, v1738, v1740, v1745, v1746, v1748, v1753, v1754, v1756, v1759⟩
  refine seq c ?_ K ?_; swap
  rintro ⟨v1761, v1762, v1764, v1769, v1770, v1772, v1777, v1778, v1780, v1785, v1786, v1788, v1793, v1794, v1796, v1801, v1802, v1804, v1807⟩
  refine seq c ?_ K ?_; swap
  rintro ⟨v1809, v1810, v1812, v1817, v1818, v1820, v1825, v1826, v1828, v1833, v1834, v1836, v1841, v1842, v1844, v1849, v1850, v1852, v1855⟩
  refine seq c ?_ K ?_; swap
  rintro ⟨v1857, v1858, v1860, v1865, v1866, v1885, v1891⟩
  refine seq c ?_ K ?_; swap
  rintro ⟨v1917, v1922⟩
  refine seq c ?_ K ?_; swap
  rintro ⟨v1949, v1951, v1952⟩
  refine seq c ?_ K ?_; swap
  rintro ⟨v1981, v1983⟩
  refine seq c ?_ K ?_; swap
  rintro ⟨v2013, v2015⟩
  · dsimp only
    iintro ⟨HS, Hk⟩
    sl_step
    iapply Hk
    iexact HS
  all_goals
    intro K
    first
      | unfold k0_part31 | unfold k0_part32 | unfold k0_part34 | unfold k0_part35
      | unfold k0_part36 | unfold k0_part37 | unfold k0_part38 | unfold k0_part39
      | unfold k0_part40 | unfold k0_part41 | unfold k0_part42 | unfold k0_part43
      | unfold k0_part44 | unfold k0_part45 | unfold k0_part46 | unfold k0_part47
      | unfold k0_part48 | unfold k0_part49 | unfold k0_part50 | unfold k0_part51
      | unfold k0_part52 | unfold k0_part53 | unfold k0_part54 | unfold k0_part55
      | unfold k0_part56 | unfold k0_part57 | unfold k0_part58 | unfold k0_part59
      | unfold k0_part60 | unfold k0_part61 | unfold k0_part62 | unfold k0_part63
      | unfold k0_part64 | unfold k0_part65 | unfold k0_part66 | unfold k0_part67
      | unfold k0_part68 | unfold k0_part69 | unfold k0_part70 | unfold k0_part71
      | unfold k0_part72 | unfold k0_part73 | unfold k0_part74 | unfold k0_part75
      | unfold k0_part76 | unfold k0_part77 | unfold k0_part78 | unfold k0_part79
      | unfold k0_part80 | unfold k0_part81 | unfold k0_part82 | unfold k0_part83
      | unfold k0_part84 | unfold k0_part85 | unfold k0_part86 | unfold k0_part87
      | unfold k0_part88 | unfold k0_part89 | unfold k0_part90
    unfold St
    iintro ⟨⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩, Hk⟩
    sl_exec
    sl_step
    iapply Hk
    sl_close

end Cert.DilIdeal.Hand

end
-- ==== Proof.DilIdealRun.Row2.lean ====
module

public import proofs.«01_k».proof.Proof.DilIdealRun.St

@[expose] public section

set_option maxRecDepth 16384

noncomputable section

namespace Cert.DilIdeal.Hand

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (a2 : Memref sig .tc .smem S32x8 .f32) (h2 : a2.IsWhole) (a3 : Memref sig .tc .vmem S1x4096x128 .f32) (h3 : a3.IsWhole) (a4 : Memref sig .tc .vmem S1x4096x128 .f32) (h4 : a4.IsWhole) (a5 : Memref sig .tc .vmem S1x4096x128 .f32) (h5 : a5.IsWhole) (a6 : Memref sig .tc .vmem S128x2048 .f32) (h6 : a6.IsWhole) (a7 : Memref sig .tc .vmem S1x4096x128 .f32) (h7 : a7.IsWhole) (a8 : Memref sig .tc .vmem S128x2048 .bf16) (h8 : a8.IsWhole) (a9 : Memref sig .tc .vmem S4096x128 .f32) (h9 : a9.IsWhole) (a10 : Memref sig .tc .vmem S4096x128 .f32) (h10 : a10.IsWhole) (a11 : Memref sig .tc .vmem S4096x128 .f32) (h11 : a11.IsWhole) (a12 : Memref sig .tc .vmem S3x4096x128 .f32) (h12 : a12.IsWhole) (a13 : Memref sig .tc .vmem S3x4096x128 .f32) (h13 : a13.IsWhole) (a14 : Memref sig .tc .vmem S3x4096x128 .f32) (h14 : a14.IsWhole) (a15 : Memref sig .tc .vmem S6x128x256 .f32) (h15 : a15.IsWhole) (f2 : Buf (Elt F) (a2.view.loc (c : Thread nD τ))) (f3 : Buf (Elt F) (a3.view.loc (c : Thread nD τ))) (f4 : Buf (Elt F) (a4.view.loc (c : Thread nD τ))) (f5 : Buf (Elt F) (a5.view.loc (c : Thread nD τ))) (f6 : Buf (Elt F) (a6.view.loc (c : Thread nD τ)))

local notation "ST" => St c a2 a3 a4 a5 a6 a7 a8 a9 a10 a11 a12 a13 a14 a15 f2 f3 f4 f5 f6

local notation "WP" => wp frame (wpE (defs₀ (F := F)) Variants.none c none) Set.univ

set_option maxHeartbeats 40000000 in
/-- The parts that part 270 calls, one after the other. -/
theorem run270 (v1817) (v1820) (v1825) (v1826) (v1828) (v1833) (v1834) (v1836) (v1841) (v1842) (v1844) (v1849) (v1850) (v1852) (v1857) (v1858) (v1860) (v1865) (v1866) (v2013) (v2015) (K : _ → sProp 𝕄) :
    iprop(ST ∗ (∀ r, ST -∗ K r)) ⊢ WP (k0_part270 i a2 h2 a3 h3 a4 h4 a5 h5 a6 h6 a7 h7 a8 h8 a9 h9 a10 h10 a11 h11 a12 h12 a13 h13 a14 h14 a15 h15 v1817 v1820 v1825 v1826 v1828 v1833 v1834 v1836 v1841 v1842 v1844 v1849 v1850 v1852 v1857 v1858 v1860 v1865 v1866 v2013 v2015) K := by
  unfold k0_part270
  refine seq c ?_ K ?_; swap
  rintro v2045
  refine seq c ?_ K ?_; swap
  rintro v2076
  refine seq c ?_ K ?_; swap
  rintro _u
  refine seq c ?_ K ?_; swap
  rintro v2135
  refine seq c ?_ K ?_; swap
  rintro ⟨v2138, v2154, v2159, v2160, v2161⟩
  refine seq c ?_ K ?_; swap
  rintro ⟨v2170, v2186, v2187, v2188⟩
  refine seq c ?_ K ?_; swap
  rintro ⟨v2202, v2215⟩
  refine seq c ?_ K ?_; swap
  rintro ⟨v2218, v2234, v2239, v2240, v2241⟩
  refine seq c ?_ K ?_; swap
  rintro ⟨v2250, v2266, v2267, v2268⟩
  refine seq c ?_ K ?_; swap
  rintro ⟨v2282, v2295⟩
  refine seq c ?_ K ?_; swap
  rintro ⟨v2298, v2314, v2319, v2320, v2321⟩
  refine seq c ?_ K ?_; swap
  rintro ⟨v2330, v2346, v2347, v2348⟩
  refine seq c ?_ K ?_; swap
  rintro ⟨v2362, v2375⟩
  refine seq c ?_ K ?_; swap
  rintro ⟨v2378, v2380, v2385, v2386, v2388, v2393, v2394, v2396, v2401, v2402, v2404, v2409, v2410, v2412, v2417, v2418, v2420, v2422⟩
  refine seq c ?_ K ?_; swap
  rintro ⟨v2425, v2426, v2428, v2433, v2434, v2436, v2441, v2442, v2444, v2449, v2450, v2452, v2457, v2458, v2460, v2465, v2466, v2468, v2470⟩
  refine seq c ?_ K ?_; swap
  rintro ⟨v2473, v2474, v2476, v2481, v2482, v2484, v2489, v2490, v2492, v2497, v2498, v2500, v2505, v2506, v2512, cst_1730⟩
  refine seq c ?_ K ?_; swap
  rintro ⟨v2513, v2548⟩
  refine seq c ?_ K ?_; swap
  rintro ⟨v2578, v2579⟩
  refine seq c ?_ K ?_; swap
  rintro ⟨v2584, v2613⟩
  refine seq c ?_ K ?_; swap
  rintro v2648
  refine seq c ?_ K ?_; swap
  rintro ⟨v2655, v2680⟩
  refine seq c ?_ K ?_; swap
  rintro v2715
  refine seq c ?_ K ?_; swap
  rintro ⟨v2726, v2745, v2746⟩
  refine seq c ?_ K ?_; swap
  rintro v2781
  refine seq c ?_ K ?_; swap
  rintro ⟨v2797, v2813⟩
  refine seq c ?_ K ?_; swap
  rintro v2848
  refine seq c ?_ K ?_; swap
  rintro ⟨v2868, v2880⟩
  refine seq c ?_ K ?_; swap
  rintro v2913
  refine seq c ?_ K ?_; swap
  rintro ⟨v2939, v2946⟩
  refine seq c ?_ K ?_; swap
  rintro v2980
  refine seq c ?_ K ?_; swap
  rintro ⟨v3010, v3013⟩
  refine seq c ?_ K ?_; swap
  rintro ⟨v3045, v3046⟩
  refine seq c ?_ K ?_; swap
  rintro ⟨v3075, v3076, v3077⟩
  refine seq c ?_ K ?_; swap
  rintro ⟨v3081, v3113⟩
  refine seq c ?_ K ?_; swap
  rintro v3146
  refine seq c ?_ K ?_; swap
  rintro ⟨v3152, v3180⟩
  refine seq c ?_ K ?_; swap
  rintro v3213
  refine seq c ?_ K ?_; swap
  rintro ⟨v3223, v3246⟩
  refine seq c ?_ K ?_; swap
  rintro v3280
  refine seq c ?_ K ?_; swap
  rintro ⟨v3294, v3313⟩
  refine seq c ?_ K ?_; swap
  rintro ⟨v3345, v3346⟩
  refine seq c ?_ K ?_; swap
  rintro ⟨v3365, v3378⟩
  refine seq c ?_ K ?_; swap
  rintro v3413
  refine seq c ?_ K ?_; swap
  rintro ⟨v3436, v3445⟩
  refine seq c ?_ K ?_; swap
  rintro v3480
  refine seq c ?_ K ?_; swap
  rintro ⟨v3507, v3510, v3511⟩
  refine seq c ?_ K ?_; swap
  rintro v3546
  refine seq c ?_ K ?_; swap
  rintro ⟨v3577, cst_2405⟩
  refine seq c ?_ K ?_; swap
  rintro ⟨v3578, v3613⟩
  refine seq c ?_ K ?_; swap
  rintro ⟨v3643, v3644⟩
  refine seq c ?_ K ?_; swap
  rintro ⟨v3658, v3671⟩
  refine seq c ?_ K ?_; swap
  rintro ⟨v3674, v3690, v3695, v3696, v3697⟩
  refine seq c ?_ K ?_; swap
  rintro ⟨v3706, v3722, v3723, v3724⟩
  refine seq c ?_ K ?_; swap
  rintro ⟨v3738, v3751⟩
  refine seq c ?_ K ?_; swap
  rintro ⟨v3754, v3770, v3775, v3776, v3777⟩
  refine seq c ?_ K ?_; swap
  rintro ⟨v3786, v3802, v3803, v3804⟩
  refine seq c ?_ K ?_; swap
  rintro ⟨v3818, v3831⟩
  refine seq c ?_ K ?_; swap
  rintro ⟨v3834, v3850, v3855, v3856, v3857⟩
  refine seq c ?_ K ?_; swap
  rintro ⟨v3866, v3882, v3883, v3884⟩
  refine seq c ?_ K ?_; swap
  rintro ⟨v3898, v3900, v3905, v3906, v3908, v3913, v3914, v3916, v3921, v3922⟩
  · dsimp only
    iintro ⟨HS, Hk⟩
    sl_step
    iapply Hk
    iexact HS
  all_goals
    intro K
    first
      | unfold k0_part91 | unfold k0_part92 | unfold k0_part93 | unfold k0_part94
      | unfold k0_part95 | unfold k0_part96 | unfold k0_part97 | unfold k0_part98
      | unfold k0_part99 | unfold k0_part100 | unfold k0_part101 | unfold k0_part102
      | unfold k0_part103 | unfold k0_part104 | unfold k0_part105 | unfold k0_part106
      | unfold k0_part107 | unfold k0_part108 | unfold k0_part109 | unfold k0_part110
      | unfold k0_part111 | unfold k0_part112 | unfold k0_part113 | unfold k0_part114
      | unfold k0_part115 | unfold k0_part116 | unfold k0_part117 | unfold k0_part118
      | unfold k0_part119 | unfold k0_part120 | unfold k0_part121 | unfold k0_part122
      | unfold k0_part123 | unfold k0_part124 | unfold k0_part125 | unfold k0_part126
      | unfold k0_part127 | unfold k0_part128 | unfold k0_part129 | unfold k0_part130
      | unfold k0_part131 | unfold k0_part132 | unfold k0_part133 | unfold k0_part134
      | unfold k0_part135 | unfold k0_part136 | unfold k0_part137 | unfold k0_part138
      | unfold k0_part139 | unfold k0_part140 | unfold k0_part141 | unfold k0_part142
      | unfold k0_part143 | unfold k0_part144 | unfold k0_part145 | unfold k0_part146
      | unfold k0_part147 | unfold k0_part148 | unfold k0_part149 | unfold k0_part150
    unfold St
    iintro ⟨⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩, Hk⟩
    sl_exec
    sl_step
    iapply Hk
    sl_close

end Cert.DilIdeal.Hand

end
-- ==== Proof.DilIdealRun.Row3.lean ====
module

public import proofs.«01_k».proof.Proof.DilIdealRun.St

@[expose] public section

set_option maxRecDepth 16384

noncomputable section

namespace Cert.DilIdeal.Hand

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (a2 : Memref sig .tc .smem S32x8 .f32) (h2 : a2.IsWhole) (a3 : Memref sig .tc .vmem S1x4096x128 .f32) (h3 : a3.IsWhole) (a4 : Memref sig .tc .vmem S1x4096x128 .f32) (h4 : a4.IsWhole) (a5 : Memref sig .tc .vmem S1x4096x128 .f32) (h5 : a5.IsWhole) (a6 : Memref sig .tc .vmem S128x2048 .f32) (h6 : a6.IsWhole) (a7 : Memref sig .tc .vmem S1x4096x128 .f32) (h7 : a7.IsWhole) (a8 : Memref sig .tc .vmem S128x2048 .bf16) (h8 : a8.IsWhole) (a9 : Memref sig .tc .vmem S4096x128 .f32) (h9 : a9.IsWhole) (a10 : Memref sig .tc .vmem S4096x128 .f32) (h10 : a10.IsWhole) (a11 : Memref sig .tc .vmem S4096x128 .f32) (h11 : a11.IsWhole) (a12 : Memref sig .tc .vmem S3x4096x128 .f32) (h12 : a12.IsWhole) (a13 : Memref sig .tc .vmem S3x4096x128 .f32) (h13 : a13.IsWhole) (a14 : Memref sig .tc .vmem S3x4096x128 .f32) (h14 : a14.IsWhole) (a15 : Memref sig .tc .vmem S6x128x256 .f32) (h15 : a15.IsWhole) (f2 : Buf (Elt F) (a2.view.loc (c : Thread nD τ))) (f3 : Buf (Elt F) (a3.view.loc (c : Thread nD τ))) (f4 : Buf (Elt F) (a4.view.loc (c : Thread nD τ))) (f5 : Buf (Elt F) (a5.view.loc (c : Thread nD τ))) (f6 : Buf (Elt F) (a6.view.loc (c : Thread nD τ)))

local notation "ST" => St c a2 a3 a4 a5 a6 a7 a8 a9 a10 a11 a12 a13 a14 a15 f2 f3 f4 f5 f6

local notation "WP" => wp frame (wpE (defs₀ (F := F)) Variants.none c none) Set.univ

set_option maxHeartbeats 40000000 in
/-- The parts that part 271 calls, one after the other. -/
theorem run271 (v3706) (v3722) (v3738) (v3754) (v3770) (v3786) (v3802) (v3818) (v3834) (v3850) (v3866) (v3882) (v3898) (v3900) (v3905) (v3906) (v3908) (v3913) (v3914) (v3916) (v3921) (v3922) (K : _ → sProp 𝕄) :
    iprop(ST ∗ (∀ r, ST -∗ K r)) ⊢ WP (k0_part271 i a2 h2 a3 h3 a4 h4 a5 h5 a6 h6 a7 h7 a8 h8 a9 h9 a10 h10 a11 h11 a12 h12 a13 h13 a14 h14 a15 h15 v3706 v3722 v3738 v3754 v3770 v3786 v3802 v3818 v3834 v3850 v3866 v3882 v3898 v3900 v3905 v3906 v3908 v3913 v3914 v3916 v3921 v3922) K := by
  unfold k0_part271
  refine seq c ?_ K ?_; swap
  rintro ⟨v3924, v3929, v3930, v3932, v3937, v3938, v3940, v3945, v3946, v3948, v3953, v3954, v3956, v3961, v3962, v3964, v3969, v3970⟩
  refine seq c ?_ K ?_; swap
  rintro ⟨v3972, v3977, v3978, v3980, v3985, v3986, v3988, v3993, v3994, v3996, v4001, v4002, v4004, v4009, v4010, v4012, v4017, v4018⟩
  refine seq c ?_ K ?_; swap
  rintro ⟨v4020, v4025, v4026, v4033, v4052, v4053⟩
  refine seq c ?_ K ?_; swap
  rintro v4088
  refine seq c ?_ K ?_; swap
  rintro ⟨v4104, v4120⟩
  refine seq c ?_ K ?_; swap
  rintro v4155
  refine seq c ?_ K ?_; swap
  rintro ⟨v4175, v4187⟩
  refine seq c ?_ K ?_; swap
  rintro v4220
  refine seq c ?_ K ?_; swap
  rintro ⟨v4246, v4253⟩
  refine seq c ?_ K ?_; swap
  rintro v4287
  refine seq c ?_ K ?_; swap
  rintro ⟨v4317, v4320⟩
  refine seq c ?_ K ?_; swap
  rintro ⟨v4352, v4353⟩
  refine seq c ?_ K ?_; swap
  rintro ⟨v4382, v4383, v4384⟩
  refine seq c ?_ K ?_; swap
  rintro ⟨v4388, v4420⟩
  refine seq c ?_ K ?_; swap
  rintro v4453
  refine seq c ?_ K ?_; swap
  rintro ⟨v4459, v4487⟩
  refine seq c ?_ K ?_; swap
  rintro v4520
  refine seq c ?_ K ?_; swap
  rintro ⟨v4530, v4553⟩
  refine seq c ?_ K ?_; swap
  rintro v4587
  refine seq c ?_ K ?_; swap
  rintro ⟨v4601, v4620⟩
  refine seq c ?_ K ?_; swap
  rintro ⟨v4652, v4653⟩
  refine seq c ?_ K ?_; swap
  rintro ⟨v4672, v4685⟩
  refine seq c ?_ K ?_; swap
  rintro v4720
  refine seq c ?_ K ?_; swap
  rintro ⟨v4743, v4752⟩
  refine seq c ?_ K ?_; swap
  rintro v4787
  refine seq c ?_ K ?_; swap
  rintro ⟨v4814, v4817, v4818⟩
  refine seq c ?_ K ?_; swap
  rintro v4853
  refine seq c ?_ K ?_; swap
  rintro ⟨v4884, cst_3294⟩
  refine seq c ?_ K ?_; swap
  rintro ⟨v4885, v4920⟩
  refine seq c ?_ K ?_; swap
  rintro ⟨v4950, v4951⟩
  refine seq c ?_ K ?_; swap
  rintro ⟨v4956, v4985⟩
  refine seq c ?_ K ?_; swap
  rintro v5020
  refine seq c ?_ K ?_; swap
  rintro ⟨v5027, v5052⟩
  refine seq c ?_ K ?_; swap
  rintro v5087
  refine seq c ?_ K ?_; swap
  rintro ⟨v5098, v5117, v5118⟩
  refine seq c ?_ K ?_; swap
  rintro v5153
  refine seq c ?_ K ?_; swap
  rintro ⟨v5168, v5170, v5178, v5182, v5184, v5185⟩
  refine seq c ?_ K ?_; swap
  rintro ⟨v5210, v5212, v5214, v5215, v5216, v5218⟩
  refine seq c ?_ K ?_; swap
  rintro ⟨v5252, v5253⟩
  refine seq c ?_ K ?_; swap
  rintro ⟨v5286, v5290⟩
  refine seq c ?_ K ?_; swap
  rintro ⟨v5300, v5302, v5314, v5320, v5323⟩
  refine seq c ?_ K ?_; swap
  rintro ⟨v5342, v5344, v5346, v5348, v5350, v5354, v5356⟩
  refine seq c ?_ K ?_; swap
  rintro ⟨v5384, v5386, v5388, v5390, cst_3635⟩
  refine seq c ?_ K ?_; swap
  rintro _u
  refine seq c ?_ K ?_; swap
  rintro ⟨v5452, v5456, v5458, v5461⟩
  refine seq c ?_ K ?_; swap
  rintro ⟨v5476, v5478, v5486, v5490, v5492, v5494⟩
  refine seq c ?_ K ?_; swap
  rintro ⟨v5518, v5520, v5522, v5523, v5524, v5526, v5527⟩
  refine seq c ?_ K ?_; swap
  rintro ⟨v5560, v5562⟩
  refine seq c ?_ K ?_; swap
  rintro v5599
  refine seq c ?_ K ?_; swap
  rintro ⟨v5608, v5610, v5628, v5632⟩
  refine seq c ?_ K ?_; swap
  rintro ⟨v5650, v5652, v5654, v5656, v5662, v5665⟩
  refine seq c ?_ K ?_; swap
  rintro ⟨v5692, v5694, v5696, v5698, v5699⟩
  refine seq c ?_ K ?_; swap
  rintro _u
  refine seq c ?_ K ?_; swap
  rintro ⟨v5764, v5766, v5770⟩
  refine seq c ?_ K ?_; swap
  rintro ⟨v5784, v5786, v5794, v5798, v5800, v5803⟩
  refine seq c ?_ K ?_; swap
  rintro ⟨v5826, v5828, v5830, v5831, v5832, v5834, v5836⟩
  refine seq c ?_ K ?_; swap
  rintro ⟨v5868, v5870⟩
  refine seq c ?_ K ?_; swap
  rintro v5907
  refine seq c ?_ K ?_; swap
  rintro ⟨v5936, v5940, v5941⟩
  refine seq c ?_ K ?_; swap
  rintro ⟨v5958, v5960, v5962, v5970, v5974⟩
  · dsimp only
    iintro ⟨HS, Hk⟩
    sl_step
    iapply Hk
    iexact HS
  all_goals
    intro K
    first
      | unfold k0_part151 | unfold k0_part152 | unfold k0_part153 | unfold k0_part154
      | unfold k0_part155 | unfold k0_part156 | unfold k0_part157 | unfold k0_part158
      | unfold k0_part159 | unfold k0_part160 | unfold k0_part161 | unfold k0_part162
      | unfold k0_part163 | unfold k0_part164 | unfold k0_part165 | unfold k0_part166
      | unfold k0_part167 | unfold k0_part168 | unfold k0_part169 | unfold k0_part170
      | unfold k0_part171 | unfold k0_part172 | unfold k0_part173 | unfold k0_part174
      | unfold k0_part175 | unfold k0_part176 | unfold k0_part177 | unfold k0_part178
      | unfold k0_part179 | unfold k0_part180 | unfold k0_part181 | unfold k0_part182
      | unfold k0_part183 | unfold k0_part184 | unfold k0_part185 | unfold k0_part186
      | unfold k0_part187 | unfold k0_part188 | unfold k0_part189 | unfold k0_part190
      | unfold k0_part191 | unfold k0_part192 | unfold k0_part193 | unfold k0_part194
      | unfold k0_part195 | unfold k0_part196 | unfold k0_part197 | unfold k0_part198
      | unfold k0_part199 | unfold k0_part200 | unfold k0_part201 | unfold k0_part202
      | unfold k0_part203 | unfold k0_part204 | unfold k0_part205 | unfold k0_part206
      | unfold k0_part207 | unfold k0_part208 | unfold k0_part209 | unfold k0_part210
    unfold St
    iintro ⟨⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩, Hk⟩
    sl_exec
    sl_step
    iapply Hk
    sl_close

end Cert.DilIdeal.Hand

end
-- ==== Proof.DilIdealRun.Row4.lean ====
module

public import proofs.«01_k».proof.Proof.DilIdealRun.St

@[expose] public section

set_option maxRecDepth 16384

noncomputable section

namespace Cert.DilIdeal.Hand

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (a2 : Memref sig .tc .smem S32x8 .f32) (h2 : a2.IsWhole) (a3 : Memref sig .tc .vmem S1x4096x128 .f32) (h3 : a3.IsWhole) (a4 : Memref sig .tc .vmem S1x4096x128 .f32) (h4 : a4.IsWhole) (a5 : Memref sig .tc .vmem S1x4096x128 .f32) (h5 : a5.IsWhole) (a6 : Memref sig .tc .vmem S128x2048 .f32) (h6 : a6.IsWhole) (a7 : Memref sig .tc .vmem S1x4096x128 .f32) (h7 : a7.IsWhole) (a8 : Memref sig .tc .vmem S128x2048 .bf16) (h8 : a8.IsWhole) (a9 : Memref sig .tc .vmem S4096x128 .f32) (h9 : a9.IsWhole) (a10 : Memref sig .tc .vmem S4096x128 .f32) (h10 : a10.IsWhole) (a11 : Memref sig .tc .vmem S4096x128 .f32) (h11 : a11.IsWhole) (a12 : Memref sig .tc .vmem S3x4096x128 .f32) (h12 : a12.IsWhole) (a13 : Memref sig .tc .vmem S3x4096x128 .f32) (h13 : a13.IsWhole) (a14 : Memref sig .tc .vmem S3x4096x128 .f32) (h14 : a14.IsWhole) (a15 : Memref sig .tc .vmem S6x128x256 .f32) (h15 : a15.IsWhole) (f2 : Buf (Elt F) (a2.view.loc (c : Thread nD τ))) (f3 : Buf (Elt F) (a3.view.loc (c : Thread nD τ))) (f4 : Buf (Elt F) (a4.view.loc (c : Thread nD τ))) (f5 : Buf (Elt F) (a5.view.loc (c : Thread nD τ))) (f6 : Buf (Elt F) (a6.view.loc (c : Thread nD τ)))

local notation "ST" => St c a2 a3 a4 a5 a6 a7 a8 a9 a10 a11 a12 a13 a14 a15 f2 f3 f4 f5 f6

local notation "WP" => wp frame (wpE (defs₀ (F := F)) Variants.none c none) Set.univ

set_option maxHeartbeats 40000000 in
/-- The parts that part 272 calls, one after the other. -/
theorem run272 (v5958) (v5960) (v5962) (v5970) (v5974) (K : _ → sProp 𝕄) :
    iprop(ST ∗ (∀ r, ST -∗ K r)) ⊢ WP (k0_part272 i a2 h2 a3 h3 a4 h4 a5 h5 a6 h6 a7 h7 a8 h8 a9 h9 a10 h10 a11 h11 a12 h12 a13 h13 a14 h14 a15 h15 v5958 v5960 v5962 v5970 v5974) K := by
  unfold k0_part272
  refine seq c ?_ K ?_; swap
  rintro ⟨v6000, v6002, v6004, v6006, v6007, cst_4083⟩
  refine seq c ?_ K ?_; swap
  rintro _u
  refine seq c ?_ K ?_; swap
  rintro ⟨v6072, v6074, v6078⟩
  refine seq c ?_ K ?_; swap
  rintro ⟨v6092, v6094, v6106, v6108, v6112⟩
  refine seq c ?_ K ?_; swap
  rintro ⟨v6134, v6136, v6138, v6139, v6140, v6142, v6145⟩
  refine seq c ?_ K ?_; swap
  rintro ⟨v6176, v6178⟩
  refine seq c ?_ K ?_; swap
  rintro v6215
  refine seq c ?_ K ?_; swap
  rintro ⟨v6244, v6248, v6250⟩
  refine seq c ?_ K ?_; swap
  rintro ⟨v6268, v6270, v6278, v6282, v6283⟩
  refine seq c ?_ K ?_; swap
  rintro ⟨v6308, v6310, v6312, v6314, v6315, v6316⟩
  refine seq c ?_ K ?_; swap
  rintro v6351
  refine seq c ?_ K ?_; swap
  rintro ⟨v6380, v6382, v6386⟩
  refine seq c ?_ K ?_; swap
  rintro ⟨v6400, v6402, v6414, v6416, v6420⟩
  refine seq c ?_ K ?_; swap
  rintro ⟨v6442, v6444, v6446, v6448, v6450, v6454⟩
  refine seq c ?_ K ?_; swap
  rintro ⟨v6484, v6486⟩
  refine seq c ?_ K ?_; swap
  rintro v6523
  refine seq c ?_ K ?_; swap
  rintro ⟨v6552, v6556, v6558⟩
  refine seq c ?_ K ?_; swap
  rintro ⟨v6576, v6578, v6586, v6590, v6592⟩
  refine seq c ?_ K ?_; swap
  rintro ⟨v6618, v6620, v6622, v6623, v6624, v6625⟩
  refine seq c ?_ K ?_; swap
  rintro v6660
  refine seq c ?_ K ?_; swap
  rintro ⟨v6688, v6690, v6694⟩
  refine seq c ?_ K ?_; swap
  rintro ⟨v6708, v6710, v6722, v6724, v6728⟩
  refine seq c ?_ K ?_; swap
  rintro ⟨v6750, v6752, v6754, v6756, v6758, v6762⟩
  refine seq c ?_ K ?_; swap
  rintro ⟨v6792, v6794, v6795⟩
  refine seq c ?_ K ?_; swap
  rintro ⟨v6831, v6832⟩
  refine seq c ?_ K ?_; swap
  rintro ⟨v6860, v6864, v6866⟩
  refine seq c ?_ K ?_; swap
  rintro ⟨v6884, v6886, v6894, v6898, v6900⟩
  refine seq c ?_ K ?_; swap
  rintro ⟨v6926, v6928, v6930, v6931, v6932, v6934⟩
  refine seq c ?_ K ?_; swap
  rintro v6968
  refine seq c ?_ K ?_; swap
  rintro ⟨v6996, v6998, v7002, v7003⟩
  refine seq c ?_ K ?_; swap
  rintro ⟨v7016, v7018, v7030, v7032, v7036⟩
  refine seq c ?_ K ?_; swap
  rintro ⟨v7058, v7060, v7062, v7064, v7066, v7070⟩
  refine seq c ?_ K ?_; swap
  rintro ⟨v7100, v7102, v7104⟩
  refine seq c ?_ K ?_; swap
  rintro v7139
  refine seq c ?_ K ?_; swap
  rintro ⟨v7168, v7172, v7174⟩
  refine seq c ?_ K ?_; swap
  rintro ⟨v7192, v7194, v7202, v7206, v7208⟩
  refine seq c ?_ K ?_; swap
  rintro ⟨v7234, v7236, v7238, v7239, v7240, v7242⟩
  refine seq c ?_ K ?_; swap
  rintro v7276
  refine seq c ?_ K ?_; swap
  rintro ⟨v7304, v7306, v7310, v7312⟩
  refine seq c ?_ K ?_; swap
  rintro ⟨v7324, v7326, v7338, v7340, v7344, v7345⟩
  refine seq c ?_ K ?_; swap
  rintro ⟨v7366, v7368, v7370, v7372, v7374, v7378⟩
  refine seq c ?_ K ?_; swap
  rintro ⟨v7408, v7410, v7412, v7413⟩
  refine seq c ?_ K ?_; swap
  rintro v7450
  refine seq c ?_ K ?_; swap
  rintro ⟨v7476, v7480, v7482, v7483⟩
  refine seq c ?_ K ?_; swap
  rintro ⟨v7500, v7502, v7510, v7514, v7516⟩
  refine seq c ?_ K ?_; swap
  rintro ⟨v7542, v7544, v7546, v7547, v7548, v7550⟩
  refine seq c ?_ K ?_; swap
  rintro v7584
  refine seq c ?_ K ?_; swap
  rintro ⟨v7612, v7618, v7621⟩
  refine seq c ?_ K ?_; swap
  rintro ⟨v7632, v7634, v7646, v7648, v7652, v7654⟩
  refine seq c ?_ K ?_; swap
  rintro ⟨v7674, v7676, v7678, v7680, v7682, v7686, v7687⟩
  refine seq c ?_ K ?_; swap
  rintro ⟨v7716, v7718, v7720, v7722⟩
  refine seq c ?_ K ?_; swap
  rintro _u
  refine seq c ?_ K ?_; swap
  rintro ⟨v7784, v7788, v7790, v7792⟩
  refine seq c ?_ K ?_; swap
  rintro ⟨v7808, v7810, v7818, v7822, v7824, v7825⟩
  refine seq c ?_ K ?_; swap
  rintro ⟨v7850, v7852, v7854, v7855, v7856, v7858⟩
  refine seq c ?_ K ?_; swap
  rintro ⟨v7892, v7893⟩
  refine seq c ?_ K ?_; swap
  rintro ⟨v7926, v7930⟩
  refine seq c ?_ K ?_; swap
  rintro ⟨v7940, v7942, v7954, v7960, v7963⟩
  · dsimp only
    iintro ⟨HS, Hk⟩
    sl_step
    iapply Hk
    iexact HS
  all_goals
    intro K
    first
      | unfold k0_part211 | unfold k0_part212 | unfold k0_part213 | unfold k0_part214
      | unfold k0_part215 | unfold k0_part216 | unfold k0_part217 | unfold k0_part218
      | unfold k0_part219 | unfold k0_part220 | unfold k0_part221 | unfold k0_part222
      | unfold k0_part223 | unfold k0_part224 | unfold k0_part225 | unfold k0_part226
      | unfold k0_part227 | unfold k0_part228 | unfold k0_part229 | unfold k0_part230
      | unfold k0_part231 | unfold k0_part232 | unfold k0_part233 | unfold k0_part234
      | unfold k0_part235 | unfold k0_part236 | unfold k0_part237 | unfold k0_part238
      | unfold k0_part239 | unfold k0_part240 | unfold k0_part241 | unfold k0_part242
      | unfold k0_part243 | unfold k0_part244 | unfold k0_part245 | unfold k0_part246
      | unfold k0_part247 | unfold k0_part248 | unfold k0_part249 | unfold k0_part250
      | unfold k0_part251 | unfold k0_part252 | unfold k0_part253 | unfold k0_part254
      | unfold k0_part255 | unfold k0_part256 | unfold k0_part257 | unfold k0_part258
      | unfold k0_part259 | unfold k0_part260 | unfold k0_part261 | unfold k0_part262
      | unfold k0_part263 | unfold k0_part264 | unfold k0_part265 | unfold k0_part266
      | unfold k0_part267 | unfold k0_part268
    unfold St
    iintro ⟨⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩, Hk⟩
    sl_exec
    sl_step
    iapply Hk
    sl_close

end Cert.DilIdeal.Hand

end
-- ==== Proof.DilIdealRun.Whole.lean ====
module

public import proofs.«01_k».proof.Proof.DilIdealRun.Row1
public import proofs.«01_k».proof.Proof.DilIdealRun.Row2
public import proofs.«01_k».proof.Proof.DilIdealRun.Row3
public import proofs.«01_k».proof.Proof.DilIdealRun.Row4

@[expose] public section

set_option maxRecDepth 16384

noncomputable section

namespace Cert.DilIdeal.Hand

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (a2 : Memref sig .tc .smem S32x8 .f32) (h2 : a2.IsWhole) (a3 : Memref sig .tc .vmem S1x4096x128 .f32) (h3 : a3.IsWhole) (a4 : Memref sig .tc .vmem S1x4096x128 .f32) (h4 : a4.IsWhole) (a5 : Memref sig .tc .vmem S1x4096x128 .f32) (h5 : a5.IsWhole) (a6 : Memref sig .tc .vmem S128x2048 .f32) (h6 : a6.IsWhole) (a7 : Memref sig .tc .vmem S1x4096x128 .f32) (h7 : a7.IsWhole) (a8 : Memref sig .tc .vmem S128x2048 .bf16) (h8 : a8.IsWhole) (a9 : Memref sig .tc .vmem S4096x128 .f32) (h9 : a9.IsWhole) (a10 : Memref sig .tc .vmem S4096x128 .f32) (h10 : a10.IsWhole) (a11 : Memref sig .tc .vmem S4096x128 .f32) (h11 : a11.IsWhole) (a12 : Memref sig .tc .vmem S3x4096x128 .f32) (h12 : a12.IsWhole) (a13 : Memref sig .tc .vmem S3x4096x128 .f32) (h13 : a13.IsWhole) (a14 : Memref sig .tc .vmem S3x4096x128 .f32) (h14 : a14.IsWhole) (a15 : Memref sig .tc .vmem S6x128x256 .f32) (h15 : a15.IsWhole) (f2 : Buf (Elt F) (a2.view.loc (c : Thread nD τ))) (f3 : Buf (Elt F) (a3.view.loc (c : Thread nD τ))) (f4 : Buf (Elt F) (a4.view.loc (c : Thread nD τ))) (f5 : Buf (Elt F) (a5.view.loc (c : Thread nD τ))) (f6 : Buf (Elt F) (a6.view.loc (c : Thread nD τ)))

local notation "ST" => St c a2 a3 a4 a5 a6 a7 a8 a9 a10 a11 a12 a13 a14 a15 f2 f3 f4 f5 f6

local notation "WP" => wp frame (wpE (defs₀ (F := F)) Variants.none c none) Set.univ

set_option maxHeartbeats 40000000 in
/-- The whole body. -/
theorem runBody (K : _ → sProp 𝕄) :
    iprop(ST ∗ (∀ r, ST -∗ K r)) ⊢ WP (cc0_dilated_attn i a2 h2 a3 h3 a4 h4 a5 h5 a6 h6 a7 h7 a8 h8 a9 h9 a10 h10 a11 h11 a12 h12 a13 h13 a14 h14 a15 h15) K := by
  unfold cc0_dilated_attn
  refine seq c (run269 c i a2 h2 a3 h3 a4 h4 a5 h5 a6 h6 a7 h7 a8 h8 a9 h9 a10 h10 a11 h11 a12 h12 a13 h13 a14 h14 a15 h15 f2 f3 f4 f5 f6 ) K ?_
  rintro ⟨v1817, v1820, v1825, v1826, v1828, v1833, v1834, v1836, v1841, v1842, v1844, v1849, v1850, v1852, v1857, v1858, v1860, v1865, v1866, v2013, v2015⟩
  refine seq c (run270 c i a2 h2 a3 h3 a4 h4 a5 h5 a6 h6 a7 h7 a8 h8 a9 h9 a10 h10 a11 h11 a12 h12 a13 h13 a14 h14 a15 h15 f2 f3 f4 f5 f6 _ _ _ _ _ _ _ _ _ _ _ _ _ _ _ _ _ _ _ _ _ ) K ?_
  rintro ⟨v3706, v3722, v3738, v3754, v3770, v3786, v3802, v3818, v3834, v3850, v3866, v3882, v3898, v3900, v3905, v3906, v3908, v3913, v3914, v3916, v3921, v3922⟩
  refine seq c (run271 c i a2 h2 a3 h3 a4 h4 a5 h5 a6 h6 a7 h7 a8 h8 a9 h9 a10 h10 a11 h11 a12 h12 a13 h13 a14 h14 a15 h15 f2 f3 f4 f5 f6 _ _ _ _ _ _ _ _ _ _ _ _ _ _ _ _ _ _ _ _ _ _ ) K ?_
  rintro ⟨v5958, v5960, v5962, v5970, v5974⟩
  refine seq c (run272 c i a2 h2 a3 h3 a4 h4 a5 h5 a6 h6 a7 h7 a8 h8 a9 h9 a10 h10 a11 h11 a12 h12 a13 h13 a14 h14 a15 h15 f2 f3 f4 f5 f6 _ _ _ _ _ ) K ?_
  rintro ⟨v7960, v7964, v7965⟩
  dsimp only
  unfold St
  iintro ⟨⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩, Hk⟩
  sl_exec
  sl_step
  iapply Hk
  sl_close

end Cert.DilIdeal.Hand

end
-- ==== Proof.DilIdealRun.Frame.lean ====
module

public import proofs.«01_k».proof.Proof.DilIdealRun.Whole
public import Idealize.ShloMosaic.Lib.Claim

@[expose] public section

set_option maxRecDepth 16384

noncomputable section

namespace Cert.DilIdeal.Hand

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat BodyObligation)

variable (m : (ℓ : Loc nD τ sig) → Buf (Elt F) ℓ) (ρ : Dev nD → PrngReg)

/-- The body's triple, at any whole memrefs. -/
theorem bodyTriple (c : Dev nD) (i : grid0.Coords) (a2 : Memref sig .tc .smem S32x8 .f32) (h2 : a2.IsWhole) (a3 : Memref sig .tc .vmem S1x4096x128 .f32) (h3 : a3.IsWhole) (a4 : Memref sig .tc .vmem S1x4096x128 .f32) (h4 : a4.IsWhole) (a5 : Memref sig .tc .vmem S1x4096x128 .f32) (h5 : a5.IsWhole) (a6 : Memref sig .tc .vmem S128x2048 .f32) (h6 : a6.IsWhole) (a7 : Memref sig .tc .vmem S1x4096x128 .f32) (h7 : a7.IsWhole) (a8 : Memref sig .tc .vmem S128x2048 .bf16) (h8 : a8.IsWhole) (a9 : Memref sig .tc .vmem S4096x128 .f32) (h9 : a9.IsWhole) (a10 : Memref sig .tc .vmem S4096x128 .f32) (h10 : a10.IsWhole) (a11 : Memref sig .tc .vmem S4096x128 .f32) (h11 : a11.IsWhole) (a12 : Memref sig .tc .vmem S3x4096x128 .f32) (h12 : a12.IsWhole) (a13 : Memref sig .tc .vmem S3x4096x128 .f32) (h13 : a13.IsWhole) (a14 : Memref sig .tc .vmem S3x4096x128 .f32) (h14 : a14.IsWhole) (a15 : Memref sig .tc .vmem S6x128x256 .f32) (h15 : a15.IsWhole) (x0 : Vec F S32x8 .f32) (x1 : Vec F S1x4096x128 .f32) (x2 : Vec F S1x4096x128 .f32) (x3 : Vec F S1x4096x128 .f32) (x4 : Vec F S128x2048 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ (∃ d, owns (c : Thread nD τ) a8 fullShare d) ∗ (∃ f, a9.view.loc (c : Thread nD τ) ↦{fullShare} f) ∗ (∃ f, a10.view.loc (c : Thread nD τ) ↦{fullShare} f) ∗ (∃ f, a11.view.loc (c : Thread nD τ) ↦{fullShare} f) ∗ (∃ f, a12.view.loc (c : Thread nD τ) ↦{fullShare} f) ∗ (∃ f, a13.view.loc (c : Thread nD τ) ↦{fullShare} f) ∗ (∃ f, a14.view.loc (c : Thread nD τ) ↦{fullShare} f) ∗ (∃ f, a15.view.loc (c : Thread nD τ) ↦{fullShare} f) ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ (∃ d, owns (c : Thread nD τ) a8 fullShare d) ∗ (∃ f, a9.view.loc (c : Thread nD τ) ↦{fullShare} f) ∗ (∃ f, a10.view.loc (c : Thread nD τ) ↦{fullShare} f) ∗ (∃ f, a11.view.loc (c : Thread nD τ) ↦{fullShare} f) ∗ (∃ f, a12.view.loc (c : Thread nD τ) ↦{fullShare} f) ∗ (∃ f, a13.view.loc (c : Thread nD τ) ↦{fullShare} f) ∗ (∃ f, a14.view.loc (c : Thread nD τ) ↦{fullShare} f) ∗ (∃ f, a15.view.loc (c : Thread nD τ) ↦{fullShare} f)) -∗ K ⟨⟩))
      ⊢ wp frame (wpE (defs₀ (F := F)) Variants.none c none) Set.univ (cc0_dilated_attn i a2 h2 a3 h3 a4 h4 a5 h5 a6 h6 a7 h7 a8 h8 a9 h9 a10 h10 a11 h11 a12 h12 a13 h13 a14 h14 a15 h15) K := by
  simp only [owns, h2.set_eq_univ, h3.set_eq_univ, h4.set_eq_univ, h5.set_eq_univ, h6.set_eq_univ, h7.set_eq_univ, h8.set_eq_univ]
  iintro ⟨⟨%f2, %e2, H2⟩, ⟨%f3, %e3, H3⟩, ⟨%f4, %e4, H4⟩, ⟨%f5, %e5, H5⟩, ⟨%f6, %e6, H6⟩, ⟨%d7, %f7, %e7, H7⟩, ⟨%d8, %f8, %e8, H8⟩, ⟨%f9, H9⟩, ⟨%f10, H10⟩, ⟨%f11, H11⟩, ⟨%f12, H12⟩, ⟨%f13, H13⟩, ⟨%f14, H14⟩, ⟨%f15, H15⟩, Hk⟩
  iapply (runBody c i a2 h2 a3 h3 a4 h4 a5 h5 a6 h6 a7 h7 a8 h8 a9 h9 a10 h10 a11 h11 a12 h12 a13 h13 a14 h14 a15 h15 f2 f3 f4 f5 f6 K)
  unfold St
  isplitl [H2 H3 H4 H5 H6 H7 H8 H9 H10 H11 H12 H13 H14 H15]
  · isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15
  iintro %r ⟨H2, H3, H4, H5, H6, ⟨%g7, H7⟩, ⟨%g8, H8⟩, ⟨%g9, H9⟩, ⟨%g10, H10⟩, ⟨%g11, H11⟩, ⟨%g12, H12⟩, ⟨%g13, H13⟩, ⟨%g14, H14⟩, ⟨%g15, H15⟩⟩
  iapply Hk
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists _, g7; isplitr; swap; · iexact H7
    ipureintro; rfl
  isplitl [H8]
  · iexists _, g8; isplitr; swap; · iexact H8
    ipureintro; rfl
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

/-- The two outputs, whose contents nothing here names. -/
def forgets0 : Fin 7 → Bool := ![false, false, false, false, false, true, true]

/-- The proof data: the arrays as the region finds them, each input's block left in place, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ X, owns (c : Thread nD τ) (win0_5.stage (cfg0.slots t 5)) fullShare X)
    ∗ (∃ X, owns (c : Thread nD τ) (win0_6.stage (cfg0.slots t 6)) fullShare X))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ (∃ X, owns (c : Thread nD τ) (win0_5.stage (cfg0.slots t 5)) fullShare X)
    ∗ (∃ X, owns (c : Thread nD τ) (win0_6.stage (cfg0.slots t 6)) fullShare X))

/-- The body at any point: `runBody` at the staging buffers and the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4,
    show (dats m 0 c).Φ t.castSucc = Pipeline.ΦA spec0 c from rfl]
  unfold Pipeline.ΦA
  rw [scopedRest0_eq]
  iintro ⟨⟨⟨⟨%s0, S0⟩, ⟨%s1, S1⟩, ⟨%s2, S2⟩, ⟨%s3, S3⟩, ⟨%s4, S4⟩, ⟨%s5, S5⟩, ⟨%s6, S6⟩⟩, Hg⟩, Ho, ⟨%d0, H0⟩, ⟨%d1, H1⟩, ⟨%d2, H2⟩, ⟨%d3, H3⟩, ⟨%d4, H4⟩, ⟨%d5, H5⟩, ⟨%d6, H6⟩⟩
  iapply (bodyTriple c (grid0.coords t) _ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  iintro ⟨H0, H1, H2, H3, H4, ⟨%g5, H5⟩, ⟨%g6, H6⟩, ⟨%g7, S0⟩, ⟨%g8, S1⟩, ⟨%g9, S2⟩, ⟨%g10, S3⟩, ⟨%g11, S4⟩, ⟨%g12, S5⟩, ⟨%g13, S6⟩⟩
  isplitl [Hg S0 S1 S2 S3 S4 S5 S6]
  · isplitl [S0 S1 S2 S3 S4 S5 S6]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iexists _; iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found by unifying its conclusion with this one
set_option backward.isDefEq.respectTransparency.types false in
set_option maxHeartbeats 800000 in
/-- Every execution ends, the inputs' arrays as the region found them, every semaphore counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- THE FRAME: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Pipeline.mem_restRefs_of main_arg0 (by decide) (by decide))).trans (V_main_arg0 m c),
      (cast (congrFun (Pipeline.RDat.ArrAt_in ((dats m 0 c).toRForget forgets0) 0 rfl cfg0.N) _) ((h.1 c).1 0)).trans
        ((A_eq m c 0).trans (V_main_arg1 m c)),
      ((h.1 c).2 main_arg2 (Pipeline.mem_restRefs_of main_arg2 (by decide) (by decide))).trans (V_main_arg2 m c)⟩, h.2⟩) (run_main m ρ)

end Cert.DilIdeal.Hand

end
-- ==== Proof.lean ====
module

public import proofs.«01_k».proof.Defs
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.RefProjIdeal
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.RefKvIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.RefMixIdeal
public import proofs.«01_k».proof.Proof.Gen.Hidden
public import proofs.«01_k».proof.Proof.Gen.Hidden.Skeleton
public import proofs.«01_k».proof.Proof.Gen.Hidden.Launch
public import proofs.«01_k».proof.Proof.Gen.Hidden.Points
public import proofs.«01_k».proof.Proof.Gen.Hidden.Frame
public import proofs.«01_k».proof.Proof.Gen.HiddenIdeal
public import proofs.«01_k».proof.Proof.Gen.HiddenIdeal.Skeleton
public import proofs.«01_k».proof.Proof.Gen.HiddenIdeal.Launch
public import proofs.«01_k».proof.Proof.Gen.HiddenIdeal.Points
public import proofs.«01_k».proof.Proof.Gen.HiddenIdeal.Frame
public import proofs.«01_k».proof.Proof.Gen.RefHiddenIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.RefDownIdeal
public import proofs.«01_k».proof.Proof.Gen.Dil
public import proofs.«01_k».proof.Proof.Gen.Dil.Skeleton
public import proofs.«01_k».proof.Proof.Gen.Dil.Launch
public import proofs.«01_k».proof.Proof.Gen.Dil.Points
public import proofs.«01_k».proof.Proof.Gen.Dil.Frame
public import proofs.«01_k».proof.Proof.Gen.DilIdeal
public import proofs.«01_k».proof.Proof.Gen.DilIdeal.Skeleton
public import proofs.«01_k».proof.Proof.Gen.DilIdeal.Launch
public import proofs.«01_k».proof.Proof.Gen.DilIdeal.Points
public import proofs.«01_k».proof.Proof.Gen.DilIdeal.Frame
public import proofs.«01_k».proof.Proof.Gen.ProjIdeal.Value
public import proofs.«01_k».proof.Proof.Gen.RefProjIdeal.Read
public import proofs.«01_k».proof.Proof.Gen.KvIdeal.Value
public import proofs.«01_k».proof.Proof.Gen.RefKvIdeal.Read
public import proofs.«01_k».proof.Proof.Gen.MixIdeal.Value
public import proofs.«01_k».proof.Proof.Gen.RefMixIdeal.Read
public import proofs.«01_k».proof.Proof.Gen.HiddenIdeal.Value
public import proofs.«01_k».proof.Proof.Gen.RefHiddenIdeal.Read
public import proofs.«01_k».proof.Proof.Gen.DownIdeal.Value
public import proofs.«01_k».proof.Proof.Gen.RefDownIdeal.Read
public import proofs.«01_k».proof.Proof.Proj
public import proofs.«01_k».proof.Proof.Kv
public import proofs.«01_k».proof.Proof.Mix
public import proofs.«01_k».proof.Proof.Hidden
public import proofs.«01_k».proof.Proof.Down
public import proofs.«01_k».proof.Proof.DilRun.Frame
public import proofs.«01_k».proof.Proof.DilIdealRun.Frame
public import Idealize.ShloMosaic.Lib.Claim
public import Idealize.ShloMosaic.Adequacy
public import Idealize.ShloMosaic.Init

@[expose] public section

noncomputable section

namespace Cert.Proof

open Idealize.ShloMosaic Idealize.SL.Sem

/-- The reference of the input projection runs, leaves its arguments as they were and every counter at zero. -/
theorem frame_RefProj : Cert.quiescent_RefProjIdeal := fun m ρ _ =>
  (θ_run Cert.RefProjIdeal.defs _ _).mono (fun r h => ⟨fun c => (h c).2, Idealize.ShloMosaic.sem_eq_zero_of_no_sems (by decide) r.2⟩)
    (Cert.RefProjIdeal.Value.run (F := Ideal) m ρ)

/-- The reference of the memory projection runs, leaves its arguments as they were and every counter at zero. -/
theorem frame_RefKv : Cert.quiescent_RefKvIdeal := fun m ρ _ =>
  (θ_run Cert.RefKvIdeal.defs _ _).mono (fun r h => ⟨fun c => (h c).2, Idealize.ShloMosaic.sem_eq_zero_of_no_sems (by decide) r.2⟩)
    (Cert.RefKvIdeal.Value.run (F := Ideal) m ρ)

/-- The reference of the mixing call runs, leaves its arguments as they were and every counter at zero. -/
theorem frame_RefMix : Cert.quiescent_RefMixIdeal := fun m ρ _ =>
  (θ_run Cert.RefMixIdeal.defs _ _).mono (fun r h => ⟨fun c => (h c).2.2, Idealize.ShloMosaic.sem_eq_zero_of_no_sems (by decide) r.2⟩)
    (Cert.RefMixIdeal.Value.run (F := Ideal) m ρ)

/-- The reference of the hidden call runs, leaves its arguments as they were and every counter at zero. -/
theorem frame_RefHidden : Cert.quiescent_RefHiddenIdeal := fun m ρ _ =>
  (θ_run Cert.RefHiddenIdeal.defs _ _).mono (fun r h => ⟨fun c => (h c).2.2, Idealize.ShloMosaic.sem_eq_zero_of_no_sems (by decide) r.2⟩)
    (Cert.RefHiddenIdeal.Value.run (F := Ideal) m ρ)

/-- The reference of the output call runs, leaves its arguments as they were and every counter at zero. -/
theorem frame_RefDown : Cert.quiescent_RefDownIdeal := fun m ρ _ =>
  (θ_run Cert.RefDownIdeal.defs _ _).mono (fun r h => ⟨fun c => (h c).2, Idealize.ShloMosaic.sem_eq_zero_of_no_sems (by decide) r.2⟩)
    (Cert.RefDownIdeal.Value.run (F := Ideal) m ρ)

/-- The input projection's kernel and its reference end with equal results. -/
theorem algebraic_Proj : Cert.algebraic_ProjIdeal_RefProjIdeal := by
  pair_intro
  · run_from Cert.ProjIdeal.Gen.run_main m g
  · run_from Cert.RefProjIdeal.Value.run m' g'
    exact ((Cert.RefProjIdeal.Read.val_main_v2_eq _ _).trans (ProjValue.final m c).symm)

/-- The memory projection's kernel and its reference end with equal results. -/
theorem algebraic_Kv : Cert.algebraic_KvIdeal_RefKvIdeal := by
  pair_intro
  · run_from Cert.KvIdeal.Gen.run_main m g
  · run_from Cert.RefKvIdeal.Value.run m' g'
    exact ((Cert.RefKvIdeal.Read.val_main_v3_eq _ _).trans (KvValue.final m c).symm)

/-- The mixing call's kernel, where memory queries and keys are finite, runs as it does everywhere. -/
theorem frame_MixPre : Cert.quiescent_MixIdeal_pre_scores_finite := fun m ρ _ => Cert.MixIdeal.Gen.frame m ρ

/-- The mixing call's reference, where memory queries and keys are finite, runs as it does everywhere. -/
theorem frame_RefMixPre : Cert.quiescent_RefMixIdeal_pre_scores_finite := fun m ρ _ => frame_RefMix m ρ trivial

set_option maxHeartbeats 1600000 in
/-- Where the memory queries and keys are finite, the mixing call's kernel and its reference end with equal results. -/
theorem algebraic_Mix : Cert.algebraic_MixIdeal_RefMixIdeal_pre_scores_finite := by
  pair_intro
  · run_from Cert.MixIdeal.Gen.run_main m g
  · run_from Cert.RefMixIdeal.Value.run m' g'
    · obtain ⟨h0, h1, h2, h3, h4, h5, h6, h7, h8, h9, h10⟩ := hagree c
      refine (Cert.RefMixIdeal.Read.val_main_v127_eq _ _).trans ?_
      rw [h0, h1, h2, h3, h4, h5, h6, h7, h8, h9, h10]
      exact (MixValue.final m c (MixValue.real_of_pre _ _ _ _ _ _ _ _ _ _ _ (hpre c))).symm
    · obtain ⟨h0, h1, h2, h3, h4, h5, h6, h7, h8, h9, h10⟩ := hagree c
      refine (Cert.RefMixIdeal.Read.val_main_v128_eq _ _).trans ?_
      rw [h0, h1, h2, h3, h4, h5, h6, h7, h8, h9, h10]
      exact (MixValue.finalB m c (MixValue.real_of_pre _ _ _ _ _ _ _ _ _ _ _ (hpre c))).symm

/-- The hidden call's kernel and its reference end with equal results. -/
theorem algebraic_Hidden : Cert.algebraic_HiddenIdeal_RefHiddenIdeal := by
  pair_intro
  · run_from Cert.HiddenIdeal.Gen.run_main m g
  · run_from Cert.RefHiddenIdeal.Value.run m' g'
    · exact (Cert.RefHiddenIdeal.Read.val_main_v6_eq _ _ _).trans (HiddenValue.final m c).symm
    · exact (Cert.RefHiddenIdeal.Read.val_main_v8_eq _).trans (HiddenValue.finalW m c).symm

/-- The output call's kernel and its reference end with equal results. -/
theorem algebraic_Down : Cert.algebraic_DownIdeal_RefDownIdeal := by
  pair_intro
  · run_from Cert.DownIdeal.Gen.run_main m g
  · run_from Cert.RefDownIdeal.Value.run m' g'
    exact ((Cert.RefDownIdeal.Read.val_main_v30_eq _ _ _ _ _).trans (DownValue.final m c).symm)

theorem claim : Cert.Claim := ⟨Cert.Proj.Gen.facts, Cert.ProjIdeal.Gen.facts, Cert.RefProjIdeal.Gen.facts, Cert.Kv.Gen.facts, Cert.KvIdeal.Gen.facts, Cert.RefKvIdeal.Gen.facts, Cert.Mix.Gen.facts, Cert.MixIdeal.Gen.facts, Cert.RefMixIdeal.Gen.facts, Cert.Hidden.Gen.facts, Cert.HiddenIdeal.Gen.facts, Cert.RefHiddenIdeal.Gen.facts, Cert.Down.Gen.facts, Cert.DownIdeal.Gen.facts, Cert.RefDownIdeal.Gen.facts, Cert.Dil.Gen.facts, Cert.DilIdeal.Gen.facts, MixValue.preFacts,
  fun m ρ _ => Cert.Proj.Gen.frame m ρ,
  fun m ρ _ => Cert.ProjIdeal.Gen.frame m ρ,
  frame_RefProj,
  fun m ρ _ => Cert.Kv.Gen.frame m ρ,
  fun m ρ _ => Cert.KvIdeal.Gen.frame m ρ,
  frame_RefKv,
  fun m ρ _ => Cert.Mix.Gen.frame m ρ,
  fun m ρ _ => Cert.MixIdeal.Gen.frame m ρ,
  frame_MixPre,
  frame_RefMix,
  frame_RefMixPre,
  fun m ρ _ => Cert.Hidden.Gen.frame m ρ,
  fun m ρ _ => Cert.HiddenIdeal.Gen.frame m ρ,
  frame_RefHidden,
  fun m ρ _ => Cert.Down.Gen.frame m ρ,
  fun m ρ _ => Cert.DownIdeal.Gen.frame m ρ,
  frame_RefDown,
  fun m ρ _ => Cert.Dil.Hand.frame m ρ,
  fun m ρ _ => Cert.DilIdeal.Hand.frame m ρ,
  trivial, algebraic_Proj, trivial, algebraic_Kv, trivial, algebraic_Mix, trivial, algebraic_Hidden, trivial, algebraic_Down, trivial⟩

end Cert.Proof

end
